-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ preserves_Kernel_KernelIdeal
    ∧ algebraic_KernelIdeal_ReferenceIdeal (hKernelIdeal := hKernelIdeal) (hReferenceIdeal := hReferenceIdeal) (hPre_routed := hPre_routed)
-- ==== Pre_routed.lean ====
abbrev S8x49x4 : Shape := ⟨3, ![8, 49, 4]⟩
abbrev S8x49x64x384 : Shape := ⟨4, ![8, 49, 64, 384]⟩
abbrev S_ : Shape := ⟨0, ![]⟩

class Facts : Prop where
  bcast_S_S8x49x4 : S_.BroadcastsInDim S8x49x4 (![] : Fin 0 → Fin S8x49x4.rank)
  reducesTo_S8x49x4_S_d0_1_2 : S8x49x4.ReducesTo [0, 1, 2] S_
  h_S_ : 0 < S_.numel

variable [Facts]

def fn {F : FTy → Type} [FloatOps F] (main_arg0 : IVec S8x49x4 32) (main_arg1 : FVec F S8x49x64x384 .f32) : IVec S_ 1 :=
  let main_c : IVec S_ 32 := constantI S_ 32 0#32
  let main_v0 : IVec S8x49x4 32 := broadcastInDim S8x49x4 ![] bcast_S_S8x49x4 main_c
  let main_v1 : IVec S8x49x4 1 := cmpi .sge main_arg0 main_v0
  let main_c_0 : IVec S_ 32 := constantI S_ 32 49#32
  let main_v2 : IVec S8x49x4 32 := broadcastInDim S8x49x4 ![] bcast_S_S8x49x4 main_c_0
  let main_v3 : IVec S8x49x4 1 := cmpi .slt main_arg0 main_v2
  let main_v4 : IVec S8x49x4 1 := andi main_v1 main_v3
  let main_c_1 : IVec S_ 1 := constantI S_ 1 1#1
  let main_v5 : IVec S_ 1 := (fun x v => Host.reduce IntOp.andi x v reducesTo_S8x49x4_S_d0_1_2 h_S_) main_v4 main_c_1
  main_v5
-- ==== Kernel.lean ====
abbrev S8x49x4 : Shape := ⟨3, ![8, 49, 4]⟩
abbrev S8x49x64x384 : Shape := ⟨4, ![8, 49, 64, 384]⟩
abbrev S37632x2x128 : Shape := ⟨3, ![37632, 2, 128]⟩
abbrev S1568 : Shape := ⟨1, ![1568]⟩
abbrev S_ : Shape := ⟨0, ![]⟩
abbrev S1568x1 : Shape := ⟨2, ![1568, 1]⟩
abbrev S96 : Shape := ⟨1, ![96]⟩
abbrev S1x96 : Shape := ⟨2, ![1, 96]⟩
abbrev S1568x96 : Shape := ⟨2, ![1568, 96]⟩
abbrev S32x4704 : Shape := ⟨2, ![32, 4704]⟩
abbrev S32x6144 : Shape := ⟨2, ![32, 6144]⟩
abbrev S196608 : Shape := ⟨1, ![196608]⟩
abbrev S150528x2x128 : Shape := ⟨3, ![150528, 2, 128]⟩
abbrev S6144 : Shape := ⟨1, ![6144]⟩
abbrev S2x192x2x128 : Shape := ⟨4, ![2, 192, 2, 128]⟩
abbrev S1x96x2x128 : Shape := ⟨4, ![1, 96, 2, 128]⟩
abbrev S96x2x128 : Shape := ⟨3, ![96, 2, 128]⟩
abbrev S8x49x4x64x384 : Shape := ⟨5, ![8, 49, 4, 64, 384]⟩

abbrev nBuf : Table → Nat
  | .hbm => 43
  | .local .scVector .vmem => 2
  | _ => 0

abbrev bufTy : (tb : Table) → Fin (nBuf tb) → BufTy
  | .hbm, ⟨0, _⟩ => ⟨S8x49x4, .i32⟩
  | .hbm, ⟨1, _⟩ => ⟨S8x49x64x384, .f32⟩
  | .hbm, ⟨2, _⟩ => ⟨S37632x2x128, .f32⟩
  | .hbm, ⟨3, _⟩ => ⟨S1568, .i32⟩
  | .hbm, ⟨4, _⟩ => ⟨S1568, .i32⟩
  | .hbm, ⟨5, _⟩ => ⟨S_, .i32⟩
  | .hbm, ⟨6, _⟩ => ⟨S_, .i32⟩
  | .hbm, ⟨7, _⟩ => ⟨S1568, .i32⟩
  | .hbm, ⟨8, _⟩ => ⟨S1568, .i32⟩
  | .hbm, ⟨9, _⟩ => ⟨S1568, .i32⟩
  | .hbm, ⟨10, _⟩ => ⟨S_, .i32⟩
  | .hbm, ⟨11, _⟩ => ⟨S1568, .i32⟩
  | .hbm, ⟨12, _⟩ => ⟨S1568, .i1⟩
  | .hbm, ⟨13, _⟩ => ⟨S1568, .i32⟩
  | .hbm, ⟨14, _⟩ => ⟨S1568, .i32⟩
  | .hbm, ⟨15, _⟩ => ⟨S_, .i32⟩
  | .hbm, ⟨16, _⟩ => ⟨S1568, .i32⟩
  | .hbm, ⟨17, _⟩ => ⟨S1568, .i1⟩
  | .hbm, ⟨18, _⟩ => ⟨S1568, .i1⟩
  | .hbm, ⟨19, _⟩ => ⟨S_, .i32⟩
  | .hbm, ⟨20, _⟩ => ⟨S1568, .i32⟩
  | .hbm, ⟨21, _⟩ => ⟨S1568, .i32⟩
  | .hbm, ⟨22, _⟩ => ⟨S1568, .i32⟩
  | .hbm, ⟨23, _⟩ => ⟨S_, .i32⟩
  | .hbm, ⟨24, _⟩ => ⟨S1568, .i32⟩
  | .hbm, ⟨25, _⟩ => ⟨S1568, .i32⟩
  | .hbm, ⟨26, _⟩ => ⟨S1568, .i32⟩
  | .hbm, ⟨27, _⟩ => ⟨S1568x1, .i32⟩
  | .hbm, ⟨28, _⟩ => ⟨S_, .i32⟩
  | .hbm, ⟨29, _⟩ => ⟨S1568x1, .i32⟩
  | .hbm, ⟨30, _⟩ => ⟨S1568x1, .i32⟩
  | .hbm, ⟨31, _⟩ => ⟨S96, .i32⟩
  | .hbm, ⟨32, _⟩ => ⟨S1x96, .i32⟩
  | .hbm, ⟨33, _⟩ => ⟨S1568x96, .i32⟩
  | .hbm, ⟨34, _⟩ => ⟨S1568x96, .i32⟩
  | .hbm, ⟨35, _⟩ => ⟨S1568x96, .i32⟩
  | .hbm, ⟨36, _⟩ => ⟨S32x4704, .i32⟩
  | .hbm, ⟨37, _⟩ => ⟨S_, .i32⟩
  | .hbm, ⟨38, _⟩ => ⟨S_, .i32⟩
  | .hbm, ⟨39, _⟩ => ⟨S32x6144, .i32⟩
  | .hbm, ⟨40, _⟩ => ⟨S196608, .i32⟩
  | .hbm, ⟨41, _⟩ => ⟨S150528x2x128, .f32⟩
  | .hbm, ⟨42, _⟩ => ⟨S8x49x4x64x384, .f32⟩
  | .local .scVector .vmem, ⟨0, _⟩ => ⟨S6144, .i32⟩
  | .local .scVector .vmem, ⟨1, _⟩ => ⟨S2x192x2x128, .f32⟩
  | _, _ => ⟨S8x49x4, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_call1_v0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v17_scv : Ref sig .scVector := ⟨.hbm, 40, rfl⟩
abbrev main_v0_scv : Ref sig .scVector := ⟨.hbm, 2, rfl⟩
abbrev main_v18_scv : Ref sig .scVector := ⟨.hbm, 41, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
def k0_off2 (i : grid0.Coords) (c0_i32_43 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4704_i32 : BitVec 32 := 4704#32
  let v3 : BitVec 32 := Scalar.muli v1 c4704_i32
  let v28 : BitVec 32 := Scalar.addi v3 c0_i32_43
  let c0_i32_48 : BitVec 32 := 0#32
  let c0_i32_49 : BitVec 32 := 0#32
  ![v28.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x49x4 : Shape := ⟨3, ![8, 49, 4]⟩
abbrev S8x49x64x384 : Shape := ⟨4, ![8, 49, 64, 384]⟩
abbrev S8 : Shape := ⟨1, ![8]⟩
abbrev S8x1x1 : Shape := ⟨3, ![8, 1, 1]⟩
abbrev S_ : Shape := ⟨0, ![]⟩
abbrev S8x49x4x1 : Shape := ⟨4, ![8, 49, 4, 1]⟩
abbrev S8x49x4x2 : Shape := ⟨4, ![8, 49, 4, 2]⟩
abbrev S8x49x4x64x384 : Shape := ⟨5, ![8, 49, 4, 64, 384]⟩

abbrev nBuf : Space → Nat
  | .hbm => 23
  | .vmem => 0
  | .smem => 0
  | _ => 0

abbrev bufTy : (tb : Table) → Fin (tcTables nBuf tb) → BufTy
  | .hbm, ⟨0, _⟩ => ⟨S8x49x4, .i32⟩
  | .hbm, ⟨1, _⟩ => ⟨S8x49x64x384, .f32⟩
  | .hbm, ⟨2, _⟩ => ⟨S8, .i32⟩
  | .hbm, ⟨3, _⟩ => ⟨S8x1x1, .i32⟩
  | .hbm, ⟨4, _⟩ => ⟨S_, .i32⟩
  | .hbm, ⟨5, _⟩ => ⟨S8x1x1, .i32⟩
  | .hbm, ⟨6, _⟩ => ⟨S8x1x1, .i1⟩
  | .hbm, ⟨7, _⟩ => ⟨S_, .i32⟩
  | .hbm, ⟨8, _⟩ => ⟨S8x1x1, .i32⟩
  | .hbm, ⟨9, _⟩ => ⟨S8x1x1, .i32⟩
  | .hbm, ⟨10, _⟩ => ⟨S8x1x1, .i32⟩
  | .hbm, ⟨11, _⟩ => ⟨S_, .i32⟩
  | .hbm, ⟨12, _⟩ => ⟨S8x49x4, .i32⟩
  | .hbm, ⟨13, _⟩ => ⟨S8x49x4, .i1⟩
  | .hbm, ⟨14, _⟩ => ⟨S_, .i32⟩
  | .hbm, ⟨15, _⟩ => ⟨S8x49x4, .i32⟩
  | .hbm, ⟨16, _⟩ => ⟨S8x49x4, .i32⟩
  | .hbm, ⟨17, _⟩ => ⟨S8x49x4, .i32⟩
  | .hbm, ⟨18, _⟩ => ⟨S8x49x4, .i32⟩
  | .hbm, ⟨19, _⟩ => ⟨S8x49x4x1, .i32⟩
  | .hbm, ⟨20, _⟩ => ⟨S8x49x4x1, .i32⟩
  | .hbm, ⟨21, _⟩ => ⟨S8x49x4x2, .i32⟩
  | .hbm, ⟨22, _⟩ => ⟨S8x49x4x64x384, .f32⟩
  | _, _ => ⟨S8x49x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Steps.lean ====
/-
  The tile's program as a schedule of forty-nine copies. Copy `c` of a tile gathers ninety-six rows of the table into
  one quarter of the tile's row buffer and then writes that quarter to the copy's ninety-six rows of the result. A copy
  has four events: its gather starts (`gs`), its gather is waited for (`gw`), its write-out starts (`ss`) and its
  write-out is waited for (`sw`). The printed body is the fetch of the tile's index list followed by these events in the
  order `body` states (`cc0_sc_gather_eq`).
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Steps

open Cert.KernelIdeal Cert.KernelIdeal.Gen
open Idealize.ShloMosaic Idealize.SL Idealize.SL.Sem

variable {F : FTy → Type} [FloatOps F]

/-! ## What a copy names -/

/-- The tile's coordinates on its SparseCore and among the SparseCores. -/
abbrev cV (i : grid0.Coords) : Fin τ.nSC := (i 0).castLE Facts₀.hcore0
abbrev jV (i : grid0.Coords) : Fin τ.nSub := (i 1).castLE Facts₀.hsub0

abbrev Tile (i : grid0.Coords) : Type → Type _ := TpuEff nD τ sig (Elt F) Λ₀ (.scVector (cV i) (jV i))

abbrev listV : Memref sig .scVector .hbm S196608 .i32 := Memref.whole main_v17_scv
abbrev tableV : Memref sig .scVector .hbm S37632x2x128 .f32 := Memref.whole main_v0_scv
abbrev resV : Memref sig .scVector .hbm S150528x2x128 .f32 := Memref.whole main_v18_scv
abbrev scrV : Memref sig .scVector .vmem S6144 .i32 := Memref.whole cc0_scratch0
abbrev rowsV : Memref sig .scVector .vmem S2x192x2x128 .f32 := Memref.whole cc0_scratch1

/-- The tile's own stretch of the index list. -/
abbrev ownV (i : grid0.Coords) : Memref sig .scVector .hbm S6144 .i32 :=
  listV.slice (Rect.unit (s := S196608) (k0_off1 i) S6144.size (Facts₀.k0_off1_inb i)) (fun _ => rfl)

/-- All of the table, as the copies address it. -/
abbrev tabV : Memref sig .scVector .hbm S37632x2x128 .f32 :=
  tableV.slice (Rect.unit (s := S37632x2x128) ![0, 0, 0] S37632x2x128.size Facts₀.inb_S37632x2x128_S37632x2x128_0_0_0) (fun _ => rfl)

/-- The quarter of the row buffer copy `c` uses, one of four in turn. -/
abbrev slot (c : Fin 49) : Fin 4 := ⟨c.val % 4, Nat.mod_lt _ (by decide)⟩

theorem buf_inb (s : Fin 4) : ∀ a, (![s.val / 2, s.val % 2 * 96, 0, 0] : Fin 4 → Nat) a + S1x96x2x128.size a ≤ S2x192x2x128.size a := by
  have h1 := s.isLt
  have h2 := Nat.mod_lt s.val (by decide : 0 < 2)
  intro a
  match a with
  | 0 => show s.val / 2 + 1 ≤ 2; omega
  | 1 => show s.val % 2 * 96 + 96 ≤ 192; omega
  | 2 => show 0 + 2 ≤ 2; omega
  | 3 => show 0 + 128 ≤ 128; omega

/-- Quarter `s` of the row buffer. -/
abbrev bufV (s : Fin 4) : Memref sig .scVector .vmem S96x2x128 .f32 :=
  (rowsV.slice (Rect.unit (s := S2x192x2x128) ![s.val / 2, s.val % 2 * 96, 0, 0] S1x96x2x128.size (buf_inb s)) (fun _ => rfl)).squeeze
    S96x2x128 Facts₀.squeezes_S1x96x2x128_S96x2x128

theorem idx_inb (c : Fin 49) : ∀ a, (![96 * c.val] : Fin 1 → Nat) a + S96.size a ≤ S6144.size a := by
  have h := c.isLt
  intro a
  match a with
  | 0 => show 96 * c.val + 96 ≤ 6144; omega

/-- Copy `c`'s ninety-six entries of the tile's index list. -/
abbrev idxV (c : Fin 49) : Memref sig .scVector .vmem S96 .i32 :=
  scrV.slice (Rect.unit (s := S6144) ![96 * c.val] S96.size (idx_inb c)) (fun _ => rfl)

/-- Copy `c`'s ninety-six rows of the result. -/
abbrev outV (i : grid0.Coords) (c : Fin 49) : Memref sig .scVector .hbm S96x2x128 .f32 :=
  resV.slice (Rect.unit (s := S150528x2x128) (k0_off2 i (BitVec.ofNat 32 (96 * c.val))) S96x2x128.size (Facts₀.k0_off2_inb i c)) (fun _ => rfl)

/-- The semaphore the gathers into quarter `s` complete on, -/
abbrev gSem (s : Fin 4) : DmaSem sig := (⟨s.val, by have := s.isLt; show _ < 9; omega⟩ : Fin 9)
/-- and the one its write-outs complete on. -/
abbrev sSem (s : Fin 4) : DmaSem sig := (⟨4 + s.val, by have := s.isLt; show _ < 9; omega⟩ : Fin 9)

/-! ## The events -/

variable (i : grid0.Coords)

/-- Copy `c`'s gather starts. -/
def gs (c : Fin 49) (k : Prog (Tile (F := F) i) PUnit) : Prog (Tile (F := F) i) PUnit :=
  SparseCore.enqueueIndirectGather rfl tabV (bufV (slot c)) Facts₀.gathers_S37632x2x128_S96x2x128 (idxV c) rfl (gSem (slot c))
    (View.wordExact_bits rfl) rfl (Or.inl rfl) >>= fun _ => k
/-- Copy `c`'s gather is waited for. -/
def gw (c : Fin 49) (k : Prog (Tile (F := F) i) PUnit) : Prog (Tile (F := F) i) PUnit :=
  .op (.waitDma2 (gSem (slot c)) tabV (bufV (slot c)) (View.wordExact_bits rfl) ((View.wordExact_bits rfl).reshape _ _)) fun _ => k
/-- Copy `c`'s write-out starts. -/
def ss (c : Fin 49) (k : Prog (Tile (F := F) i) PUnit) : Prog (Tile (F := F) i) PUnit :=
  .op (.enqueueDma (bufV (slot c)) (.here (outV i c)) (.dma (sSem (slot c))) ((View.wordExact_bits rfl).reshape _ _) (View.wordExact_bits rfl)
    ⟨Or.inl rfl, trivial⟩) fun _ => k
/-- Copy `c`'s write-out is waited for. -/
def sw (c : Fin 49) (k : Prog (Tile (F := F) i) PUnit) : Prog (Tile (F := F) i) PUnit :=
  .op (.waitDma2 (sSem (slot c)) (bufV (slot c)) (outV i c) ((View.wordExact_bits rfl).reshape _ _) (View.wordExact_bits rfl)) fun _ => k
/-- The tile's stretch of the index list is fetched and waited for. -/
def fetch (k : Prog (Tile (F := F) i) PUnit) : Prog (Tile (F := F) i) PUnit :=
  .op (.enqueueDma (ownV i) (.here scrV) (.dma cc0_scoped0.sem) (View.wordExact_bits rfl) (Memref.isWhole_whole _).wordExact
    ⟨Or.inl rfl, trivial⟩) fun _ =>
  .op (.waitDma2 cc0_scoped0.sem (ownV i) scrV (View.wordExact_bits rfl) (Memref.isWhole_whole _).wordExact) fun _ => k

/-! ## The schedule -/

/-- Round `t`: the write-outs of copies `2t`, `2t+1` have ended, the gathers of `2t+4`, `2t+5` take their quarters, and
    the copies `2t+2`, `2t+3` pass from their gathers to their write-outs. -/
def round (t : Fin 22) (k : Prog (Tile (F := F) i) PUnit) : Prog (Tile (F := F) i) PUnit :=
  sw i ⟨2 * t.val, by omega⟩ <| sw i ⟨2 * t.val + 1, by omega⟩ <| gs i ⟨2 * t.val + 4, by omega⟩ <| gs i ⟨2 * t.val + 5, by omega⟩ <|
  gw i ⟨2 * t.val + 2, by omega⟩ <| gw i ⟨2 * t.val + 3, by omega⟩ <| ss i ⟨2 * t.val + 2, by omega⟩ <| ss i ⟨2 * t.val + 3, by omega⟩ k

/-- The last `n` rounds. -/
def rounds : (n : ℕ) → n ≤ 22 → Prog (Tile (F := F) i) PUnit → Prog (Tile (F := F) i) PUnit
  | 0, _, k => k
  | n + 1, h, k => round i ⟨21 - n, by omega⟩ (rounds n (by omega) k)

/-- What follows the rounds: copy 48 alone, and every copy still open closed. -/
def tail (k : Prog (Tile (F := F) i) PUnit) : Prog (Tile (F := F) i) PUnit :=
  sw i 44 <| sw i 45 <| gs i 48 <| gw i 46 <| gw i 47 <| ss i 46 <| ss i 47 <| gw i 48 <| ss i 48 <| sw i 46 <| sw i 47 <| sw i 48 k

/-- What precedes them: the first four gathers, and copies 0 and 1 on to their write-outs. -/
def head (k : Prog (Tile (F := F) i) PUnit) : Prog (Tile (F := F) i) PUnit :=
  gs i 0 <| gs i 1 <| gs i 2 <| gs i 3 <| gw i 0 <| gw i 1 <| ss i 0 <| ss i 1 k

/-- The tile's program. -/
def body : Prog (Tile (F := F) i) PUnit :=
  fetch i <| head i <| rounds i 22 le_rfl <| tail i <| .ret ⟨⟩

set_option maxRecDepth 100000 in
theorem cc0_sc_gather_eq :
    cc0_sc_gather (F := F) i listV (Memref.isWhole_whole _) tableV (Memref.isWhole_whole _) resV (Memref.isWhole_whole _)
      scrV (Memref.isWhole_whole _) rowsV (Memref.isWhole_whole _) cc0_scratch2 cc0_scratch3 cc0_scratch4 cc0_scratch5
      cc0_scratch6 cc0_scratch7 cc0_scratch8 cc0_scratch9 cc0_scoped0 = body i := by
  rfl

end Cert.Proof.Steps

end
-- ==== Proof.Events.lean ====
/-
  The four events of a copy, each as a step of the tile's proof. Between its events a copy is in one of four states —
  its quarter free, its rows on their way into the quarter, its rows there, its rows on their way out — and each event
  moves it from one to the next. What a copy delivers is carried along: the rows of the table that its entries of the
  index list name.
-/
module

public import proofs.«01_k».proof.Proof.Steps

@[expose] public section

noncomputable section

namespace Cert.Proof.Events

open Cert.KernelIdeal Cert.KernelIdeal.Gen Cert.Proof.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none
abbrev UH : Type := URounds (GSem nD τ sig) ℕ
abbrev UU : Type := UH × Counters

local notation "𝕄" => MT nD τ sig (HIx 1) (Elt F) ℕ UU ℕ

variable (d : Dev nD) (i : grid0.Coords)

/-- The tile. -/
abbrev th : Thread nD τ := V d (cV i) (jV i)

/-! ## The states of a copy -/

/-- What stays fixed while a tile runs: its share of the table, the table's contents, its index list as fetched (every
    entry a row of the table), and what the result held before. -/
structure Env (F : FTy → Type) (d : Dev nD) (i : grid0.Coords) where
  q : PosShare TreeShare
  tab : Buf (Elt F) (tabV.view.loc (th d i))
  idx : Buf (Elt F) (scrV.view.loc (th d i))
  old : Buf (Elt F) (resV.view.loc (th d i))
  inRange : ∀ (c : Fin 49) x, ((idxV c).view.read (Elt F) idx x).toNat < S37632x2x128.size Facts₀.gathers_S37632x2x128_S96x2x128.axis

variable {d i} (E : Env F d i)

/-- The rows copy `c` moves. -/
def pay (c : Fin 49) : S96x2x128.Idx → Elt F .f32 :=
  SparseCore.gatherPayload Facts₀.gathers_S37632x2x128_S96x2x128 (tabV.view.read (Elt F) E.tab)
    (SparseCore.rows ((idxV c).view.read (Elt F) E.idx) rfl (E.inRange c))

abbrev qTab (s : Fin 4) : PosShare TreeShare := Transfers.shareTok E.q 4 s
abbrev qIdx (s : Fin 4) : PosShare TreeShare := Transfers.shareTok fullShare 4 s

def tabPart (s : Fin 4) : sProp 𝕄 := tabV.view.loc (th d i) ↦[tabV.view.set]{qTab E s} E.tab
def idxPart (s : Fin 4) : sProp 𝕄 := scrV.view.loc (th d i) ↦{qIdx s} E.idx
def bufPart (s : Fin 4) (f : Buf (Elt F) ((bufV s).view.loc (th d i))) : sProp 𝕄 :=
  (bufV s).view.loc (th d i) ↦[(bufV s).view.set]{fullShare} f
def outPart (c : Fin 49) (f : Buf (Elt F) ((outV i c).view.loc (th d i))) : sProp 𝕄 :=
  (outV i c).view.loc (th d i) ↦[(outV i c).view.set]{fullShare} f

abbrev gCell (s : Fin 4) : GSem nD τ sig := (th d i, SemLoc.dma (gSem s))
abbrev sCell (s : Fin 4) : GSem nD τ sig := (th d i, SemLoc.dma (sSem s))

/-- The quarter's contents with copy `c`'s rows in it. -/
def filled (c : Fin 49) (f : Buf (Elt F) ((bufV (slot c)).view.loc (th d i))) : Buf (Elt F) ((bufV (slot c)).view.loc (th d i)) :=
  (bufV (slot c)).view.write (Elt F) f (pay E c) Finset.univ

/-- The result's contents with copy `c`'s rows in it. -/
def landed (c : Fin 49) : Buf (Elt F) ((outV i c).view.loc (th d i)) :=
  (outV i c).view.write (Elt F) E.old (pay E c) Finset.univ

/-- A quarter no copy uses. -/
def Free (s : Fin 4) : sProp 𝕄 :=
  iprop((∃ f, bufPart (d := d) (i := i) s f) ∗ semVal (gCell (d := d) (i := i) s) 0 ∗ semVal (sCell (d := d) (i := i) s) 0 ∗ tabPart E s ∗ idxPart E s)

/-- Copy `c`'s rows are on their way into its quarter. -/
def Coming (c : Fin 49) : sProp 𝕄 :=
  iprop(∃ f, Transfers.Flight countersEmb (th d i) (.dma (gSem (slot c))) (default : HIx 1) (bufV (slot c)).view.dmaCredit
      iprop(((bufV (slot c)).view.loc (th d i) ↦[(bufV (slot c)).view.set]{fullShare} (filled E c f))
        ∗ (tabV.view.loc (th d i) ↦[tabV.view.set]{qTab E (slot c)} E.tab)
        ∗ ((idxV c).view.loc (th d i) ↦[(idxV c).view.set]{qIdx (slot c)} E.idx))
    ∗ (scrV.view.loc (th d i) ↦[Finset.univ \ (idxV c).view.set]{qIdx (slot c)} E.idx)
    ∗ semVal (sCell (d := d) (i := i) (slot c)) 0)

/-- Copy `c`'s rows are in its quarter. -/
def Here (c : Fin 49) : sProp 𝕄 :=
  iprop((∃ f, bufPart (slot c) (filled E c f)) ∗ semVal (gCell (d := d) (i := i) (slot c)) 0 ∗ semVal (sCell (d := d) (i := i) (slot c)) 0
    ∗ tabPart E (slot c) ∗ idxPart E (slot c))

/-- Copy `c`'s rows are on their way to the result. -/
def Going (c : Fin 49) : sProp 𝕄 :=
  iprop(∃ f, Transfers.Flight countersEmb (th d i) (.dma (sSem (slot c))) (default : HIx 1) (outV i c).view.dmaCredit
      iprop(((outV i c).view.loc (th d i) ↦[(outV i c).view.set]{fullShare} (landed E c))
        ∗ ((bufV (slot c)).view.loc (th d i) ↦[(bufV (slot c)).view.set]{fullShare} (filled E c f)))
    ∗ semVal (gCell (d := d) (i := i) (slot c)) 0 ∗ tabPart E (slot c) ∗ idxPart E (slot c))

/-- What the tile owes, having waited only for transfers of its own since. -/
def Owing (d : Dev nD) (i : grid0.Coords) (O : CellTallies nD τ sig (HIx 1)) (W : Waits sig (HIx 1)) : sProp 𝕄 :=
  iprop(∃ W', ⌜∀ p ∈ W', p ∈ W ∨ p.2 = none⌝ ∗ owes (th d i) O W')

variable [FloatOps F]
variable {k : Prog (Tile (F := F) i) PUnit} {O : CellTallies nD τ sig (HIx 1)} {W : Waits sig (HIx 1)}

/-- The tile's run of a program. -/
abbrev runs (d : Dev nD) (i : grid0.Coords) (p : Prog (Tile (F := F) i) PUnit) (Φ : PUnit → sProp 𝕄) : sProp 𝕄 :=
  wp frame (wpE (defs₀ (F := F)) 𝒱₀ (th d i) none) Set.univ p Φ

theorem credit_rows (s : Fin 4) (h : S37632x2x128.Gathers 0 S96x2x128) :
    ∑ j, ((bufV s).slice (S96x2x128.rowRect h.axis' j) (S96x2x128.stride_rowRect h.axis' j)).view.dmaCredit = (bufV s).view.dmaCredit :=
  SparseCore.sum_rowCredit_eq_dmaCredit (bufV s) h.axis' fun _ => rfl

/-- The gather of copy `c` starts. -/
theorem gs_step (c : Fin 49) {Φ : PUnit → sProp 𝕄} :
    Free E (slot c) ⊢ iprop((Coming E c -∗ runs d i k Φ) -∗ runs d i (gs i c k) Φ) := by
  unfold Free Coming bufPart tabPart idxPart gs runs
  iintro ⟨⟨%f, Hb⟩, Hg, Hs, Ht, Hi⟩ Hk
  ihave Hi := (pointsTo_split_subset (ℓ := scrV.view.loc (th d i)) (q := qIdx (slot c)) (f := E.idx) (S := Finset.univ)
    (Finset.subset_univ (idxV c).view.set)).1 $$ Hi
  icases Hi with ⟨Hi, Hr⟩
  iapply (SparseCore.wp_indirectGatherLocal countersEmb 𝒱₀ (th d i) none (hg := Facts₀.gathers_S37632x2x128_S96x2x128) (default : HIx 1)
      (bufV (slot c)).view.dmaCredit (credit_rows _ _) (by decide) (E.inRange c)) $$ [Hb Ht Hi Hg]
  · isplitl [Ht]; · iexact Ht
    isplitl [Hb]; · iexact Hb
    isplitl [Hi]; · iexact Hi
    iexact Hg
  iintro Hf
  iapply Hk
  iexists f
  isplitl [Hf]; · iexact Hf
  isplitl [Hr]; · iexact Hr
  iexact Hs

theorem owing_insert (s : SemLoc sig) {W' : Waits sig (HIx 1)} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

/-- The gather of copy `c` is waited for. -/
theorem gw_step (c : Fin 49) {Φ : PUnit → sProp 𝕄} :
    iprop(Coming E c ∗ Owing d i O W ∗ Transfers.MayWaits (th d i) (default : HIx 1) O)
      ⊢ iprop((iprop(Here E c ∗ Owing d i O W) -∗ runs d i k Φ) -∗ runs d i (gw i c k) Φ) := by
  unfold Coming Here Owing bufPart tabPart idxPart gw runs
  iintro ⟨⟨%f, Hf, Hr, Hs⟩, ⟨%W', %hW, HO⟩, Hmw⟩ Hk
  iapply (Transfers.wp_waitLocalO countersEmb 𝒱₀ (th d i) none (default : HIx 1) (rfl : (bufV (slot c)).view.dmaCredit = _)) $$ [Hf HO Hmw]
  · isplitl [Hf]; · iexact Hf
    isplitl [HO]; · iexact HO
    iapply (Transfers.MayWaits.elim (SemLoc.dma (gSem (slot c)))) $$ Hmw
  iintro ⟨⟨Hb, Ht, Hi⟩, Hg, HO⟩
  iapply Hk
  isplitr [HO]
  · isplitl [Hb]; · iexists f; iexact Hb
    isplitl [Hg]; · iexact Hg
    isplitl [Hs]; · iexact Hs
    isplitl [Ht]; · iexact Ht
    iapply (pointsTo_split_subset (ℓ := scrV.view.loc (th d i)) (q := qIdx (slot c)) (f := E.idx) (S := Finset.univ)
      (Finset.subset_univ (idxV c).view.set)).2
    isplitl [Hi]; · iexact Hi
    iexact Hr
  · iexists _; isplitr
    swap; · iexact HO
    ipureintro; exact owing_insert _ hW

/-- The write-out of copy `c` starts. -/
theorem ss_step (c : Fin 49) {Φ : PUnit → sProp 𝕄} :
    iprop(Here E c ∗ outPart c E.old) ⊢ iprop((Going E c -∗ runs d i k Φ) -∗ runs d i (ss i c k) Φ) := by
  unfold Here Going bufPart outPart ss runs
  iintro ⟨⟨⟨%f, Hb⟩, Hg, Hs, Ht, Hi⟩, Ho⟩ Hk
  have hl : landed E c = (outV i c).view.write (Elt F) E.old
      ((ReadAs.same : ReadAs (Elt F) S96x2x128 .f32 S96x2x128 .f32).apply ((bufV (slot c)).view.read (Elt F) (filled E c f))) Finset.univ := by
    unfold landed filled
    rw [ReadAs.apply_same, View.read_write_univ]
  rw [hl]
  iapply (Transfers.wp_dmaLocal countersEmb 𝒱₀ (th d i) none (default : HIx 1) (outV i c).view.dmaCredit rfl
      (View.dmaCredit_pos _ (by decide)) (Finset.Subset.refl _)) $$ [Hb Ho Hs]
  · isplitl [Hb]; · iexact Hb
    isplitl [Ho]; · iexact Ho
    iexact Hs
  iintro Hf
  iapply Hk
  iexists f
  isplitl [Hf]; · iexact Hf
  isplitl [Hg]; · iexact Hg
  isplitl [Ht]; · iexact Ht
  iexact Hi

/-- The write-out of copy `c` is waited for. -/
theorem sw_step (c : Fin 49) {Φ : PUnit → sProp 𝕄} :
    iprop(Going E c ∗ Owing d i O W ∗ Transfers.MayWaits (th d i) (default : HIx 1) O)
      ⊢ iprop((iprop(Free E (slot c) ∗ outPart c (landed E c) ∗ Owing d i O W) -∗ runs d i k Φ) -∗ runs d i (sw i c k) Φ) := by
  unfold Going Free Owing bufPart outPart sw runs
  iintro ⟨⟨%f, Hf, Hg, Ht, Hi⟩, ⟨%W', %hW, HO⟩, Hmw⟩ Hk
  iapply (Transfers.wp_waitLocalO countersEmb 𝒱₀ (th d i) none (default : HIx 1) (rfl : (outV i c).view.dmaCredit = _)) $$ [Hf HO Hmw]
  · isplitl [Hf]; · iexact Hf
    isplitl [HO]; · iexact HO
    iapply (Transfers.MayWaits.elim (SemLoc.dma (sSem (slot c)))) $$ Hmw
  iintro ⟨⟨Ho, Hb⟩, Hs, HO⟩
  iapply Hk
  isplitl [Hb Hg Hs Ht Hi]
  · isplitl [Hb]; · iexists _; iexact Hb
    isplitl [Hg]; · iexact Hg
    isplitl [Hs]; · iexact Hs
    isplitl [Ht]; · iexact Ht
    iexact Hi
  isplitl [Ho]; · iexact Ho
  iexists _; isplitr
  swap; · iexact HO
  ipureintro; exact owing_insert _ hW

end Cert.Proof.Events

end
-- ==== Proof.Schedule.lean ====
/-
  The schedule of one tile, run: from its four quarters free and the result as it was, to its four quarters free and
  every copy's rows in the result. Between, the copies below `lo` have landed, those from `hi` on have not been written,
  and those between are on their way.
-/
module

public import proofs.«01_k».proof.Proof.Events

@[expose] public section

noncomputable section

namespace Cert.Proof.Schedule

open Cert.KernelIdeal Cert.KernelIdeal.Gen Cert.Proof.Steps Cert.Proof.Events

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable {d : Dev nD} {i : grid0.Coords} (E : Env F d i)

/-! ## The result's pieces -/

/-- Copy `c`'s piece of the result, as far as the tile holds it. -/
def piece (lo hi : ℕ) (c : Fin 49) : sProp 𝕄 :=
  if c.val < lo then outPart c (landed E c) else if c.val < hi then iprop(emp) else outPart c E.old

def copies (lo hi : ℕ) : sProp 𝕄 := bigSep Finset.univ (piece E lo hi)

/-- What the tile holds of the result with one piece set apart. -/
theorem copies_erase (lo hi : ℕ) (c : Fin 49) :
    copies E lo hi = iprop(piece E lo hi c ∗ bigSep (Finset.univ.erase c) (piece E lo hi)) :=
  SparseCore.bigSep_erase' (Finset.mem_univ c)

theorem copies_take {lo : ℕ} (c : Fin 49) (h : lo ≤ c.val) :
    copies E lo c.val ⊢ iprop(outPart c E.old ∗ copies E lo (c.val + 1)) := by
  have h1 : piece E lo c.val c = outPart c E.old := by
    unfold piece; rw [if_neg (by omega), if_neg (by omega)]
  have h2 : piece E lo (c.val + 1) c = iprop(emp) := by
    unfold piece; rw [if_neg (by omega), if_pos (by omega)]
  have h3 : bigSep (Finset.univ.erase c) (piece E lo c.val) = bigSep (Finset.univ.erase c) (piece E lo (c.val + 1)) :=
    bigSep_congr fun x hx => by
      have hne : x.val ≠ c.val := fun e => Finset.ne_of_mem_erase hx (Fin.ext e)
      unfold piece
      by_cases hl : x.val < lo
      · rw [if_pos hl, if_pos hl]
      · rw [if_neg hl, if_neg hl]
        by_cases hh : x.val < c.val
        · rw [if_pos hh, if_pos (by omega)]
        · rw [if_neg hh, if_neg (by omega)]
  rw [copies_erase E lo c.val c, copies_erase E lo (c.val + 1) c, h1, h2, h3]
  iintro ⟨H, Hr⟩
  isplitl [H]; · iexact H
  isplitr; · iempintro
  iexact Hr

theorem copies_put {hi : ℕ} (c : Fin 49) (h : c.val < hi) :
    iprop(outPart c (landed E c) ∗ copies E c.val hi) ⊢ copies E (c.val + 1) hi := by
  have h1 : piece E c.val hi c = iprop(emp) := by
    unfold piece; rw [if_neg (by omega), if_pos (by omega)]
  have h2 : piece E (c.val + 1) hi c = outPart c (landed E c) := by
    unfold piece; rw [if_pos (by omega)]
  have h3 : bigSep (Finset.univ.erase c) (piece E c.val hi) = bigSep (Finset.univ.erase c) (piece E (c.val + 1) hi) :=
    bigSep_congr fun x hx => by
      have hne : x.val ≠ c.val := fun e => Finset.ne_of_mem_erase hx (Fin.ext e)
      unfold piece
      by_cases hl : x.val < c.val
      · rw [if_pos hl, if_pos (by omega)]
      · rw [if_neg hl, if_neg (show ¬x.val < c.val + 1 by omega)]
  rw [copies_erase E c.val hi c, copies_erase E (c.val + 1) hi c, h1, h2, h3]
  iintro ⟨H, -, Hr⟩
  isplitl [H]; · iexact H
  iexact Hr

theorem copies_none : copies E 0 0 = bigSep Finset.univ fun c : Fin 49 => outPart c E.old :=
  bigSep_congr fun c _ => by unfold piece; rw [if_neg (by omega), if_neg (by omega)]

theorem copies_all : copies E 49 49 = bigSep Finset.univ fun c : Fin 49 => outPart c (landed E c) :=
  bigSep_congr fun c _ => by unfold piece; rw [if_pos c.isLt]

/-! ## The write-outs' events with the pieces -/

variable [FloatOps F]
variable {k : Prog (Tile (F := F) i) PUnit} {O : CellTallies nD τ sig (HIx 1)} {W : Waits sig (HIx 1)}

abbrev May (d : Dev nD) (i : grid0.Coords) (O : CellTallies nD τ sig (HIx 1)) : sProp 𝕄 :=
  Transfers.MayWaits (th d i) (default : HIx 1) O

theorem ss_take (c : Fin 49) {lo : ℕ} (h : lo ≤ c.val) {Φ : PUnit → sProp 𝕄} :
    iprop(Here E c ∗ copies E lo c.val)
      ⊢ iprop((iprop(Going E c ∗ copies E lo (c.val + 1)) -∗ runs d i k Φ) -∗ runs d i (ss i c k) Φ) := by
  iintro ⟨Hh, Hc⟩ Hk
  ihave H := (copies_take E c h) $$ Hc
  icases H with ⟨Ho, Hc⟩
  iapply (ss_step E c) $$ [Hh Ho]
  · isplitl [Hh] <;> iassumption
  iintro Hg
  iapply Hk
  isplitl [Hg] <;> iassumption

theorem sw_put (c : Fin 49) {hi : ℕ} (h : c.val < hi) {Φ : PUnit → sProp 𝕄} :
    iprop(May d i O ∗ Going E c ∗ copies E c.val hi ∗ Owing d i O W)
      ⊢ iprop((iprop(Free E (slot c) ∗ copies E (c.val + 1) hi ∗ Owing d i O W) -∗ runs d i k Φ) -∗ runs d i (sw i c k) Φ) := by
  iintro ⟨Hm, Hg, Hc, HO⟩ Hk
  iapply (sw_step E c) $$ [Hg HO Hm]
  · isplitl [Hg]; · iexact Hg
    isplitl [HO] <;> iassumption
  iintro ⟨Hf, Ho, HO⟩
  iapply Hk
  isplitl [Hf]; · iexact Hf
  isplitl [Ho Hc]
  · iapply (copies_put E c h); isplitl [Ho] <;> iassumption
  iexact HO

theorem gw_may (c : Fin 49) {Φ : PUnit → sProp 𝕄} :
    iprop(May d i O ∗ Coming E c ∗ Owing d i O W)
      ⊢ iprop((iprop(Here E c ∗ Owing d i O W) -∗ runs d i k Φ) -∗ runs d i (gw i c k) Φ) := by
  iintro ⟨Hm, Hg, HO⟩ Hk
  iapply (gw_step E c) $$ [Hg HO Hm]
  · isplitl [Hg]; · iexact Hg
    isplitl [HO] <;> iassumption
  iexact Hk

theorem gs_of_free {s : Fin 4} (c : Fin 49) (h : s = slot c) {Φ : PUnit → sProp 𝕄} :
    Free E s ⊢ iprop((Coming E c -∗ runs d i k Φ) -∗ runs d i (gs i c k) Φ) := h ▸ gs_step E c

/-! ## A round, and all of them -/

/-- Between two rounds: copies `a` and `a + 1` on their way out, the next two on their way in. -/
def Mid (O : CellTallies nD τ sig (HIx 1)) (W : Waits sig (HIx 1)) (a : ℕ) (h : a + 3 < 49) : sProp 𝕄 :=
  iprop(Going E ⟨a, by omega⟩ ∗ Going E ⟨a + 1, by omega⟩ ∗ Coming E ⟨a + 2, by omega⟩ ∗ Coming E ⟨a + 3, h⟩
    ∗ copies E a (a + 2) ∗ Owing d i O W)

theorem round_step (t : Fin 22) {Φ : PUnit → sProp 𝕄} :
    iprop(May d i O ∗ Mid E O W (2 * t.val) (by omega))
      ⊢ iprop((Mid E O W (2 * t.val + 2) (by omega) -∗ runs d i k Φ) -∗ runs d i (round i t k) Φ) := by
  have ht := t.isLt
  unfold Mid Steps.round
  iintro ⟨#Hm, Ho0, Ho1, Hi2, Hi3, Hc, HO⟩ Hk
  iapply (sw_put E ⟨2 * t.val, _⟩ (hi := 2 * t.val + 2) (by show 2 * t.val < _; omega)) $$ [Ho0 Hc HO]
  · isplitr; · iexact Hm
    isplitl [Ho0]; · iexact Ho0
    isplitl [Hc] <;> iassumption
  iintro ⟨Hf0, Hc, HO⟩
  iapply (sw_put E ⟨2 * t.val + 1, _⟩ (hi := 2 * t.val + 2) (by show 2 * t.val + 1 < _; omega)) $$ [Ho1 Hc HO]
  · isplitr; · iexact Hm
    isplitl [Ho1]; · iexact Ho1
    isplitl [Hc] <;> iassumption
  iintro ⟨Hf1, Hc, HO⟩
  iapply (gs_of_free E ⟨2 * t.val + 4, _⟩ (Fin.ext (by show 2 * t.val % 4 = (2 * t.val + 4) % 4; omega))) $$ Hf0
  iintro Hi4
  iapply (gs_of_free E ⟨2 * t.val + 5, _⟩ (Fin.ext (by show (2 * t.val + 1) % 4 = (2 * t.val + 5) % 4; omega))) $$ Hf1
  iintro Hi5
  iapply (gw_may E ⟨2 * t.val + 2, _⟩) $$ [Hi2 HO]
  · isplitr; · iexact Hm
    isplitl [Hi2] <;> iassumption
  iintro ⟨Hh2, HO⟩
  iapply (gw_may E ⟨2 * t.val + 3, _⟩) $$ [Hi3 HO]
  · isplitr; · iexact Hm
    isplitl [Hi3] <;> iassumption
  iintro ⟨Hh3, HO⟩
  iapply (ss_take E ⟨2 * t.val + 2, _⟩ (lo := 2 * t.val + 2) le_rfl) $$ [Hh2 Hc]
  · isplitl [Hh2] <;> iassumption
  iintro ⟨Ho2, Hc⟩
  iapply (ss_take E ⟨2 * t.val + 3, _⟩ (lo := 2 * t.val + 2) (by show _ ≤ 2 * t.val + 3; omega)) $$ [Hh3 Hc]
  · isplitl [Hh3] <;> iassumption
  iintro ⟨Ho3, Hc⟩
  iapply Hk
  isplitl [Ho2]; · iexact Ho2
  isplitl [Ho3]; · iexact Ho3
  isplitl [Hi4]; · iexact Hi4
  isplitl [Hi5]; · iexact Hi5
  isplitl [Hc] <;> iassumption

theorem mid_congr {a b : ℕ} (e : a = b) (ha : a + 3 < 49) (hb : b + 3 < 49) : Mid E O W a ha = Mid E O W b hb := by
  subst e; rfl

theorem rounds_step {Φ : PUnit → sProp 𝕄} : ∀ (n : ℕ) (h : n ≤ 22),
    iprop(May d i O ∗ Mid E O W (2 * (22 - n)) (by omega))
      ⊢ iprop((Mid E O W 44 (by omega) -∗ runs d i k Φ) -∗ runs d i (rounds i n h k) Φ)
  | 0, _ => by
    unfold rounds
    iintro ⟨-, H⟩ Hk
    iapply Hk; iexact H
  | n + 1, h => by
    unfold rounds
    rw [mid_congr E (show 2 * (22 - (n + 1)) = 2 * (21 - n) by omega) (by omega) (by omega)]
    iintro ⟨#Hm, H⟩ Hk
    iapply (round_step E ⟨21 - n, _⟩) $$ [H]
    · isplitr; · iexact Hm
      iexact H
    iintro H
    ihave H' := (Entails.of_eq (mid_congr E (O := O) (W := W) (show 2 * (21 - n) + 2 = 2 * (22 - n) by omega) _ (by omega))) $$ H
    iapply (rounds_step n _) $$ [H']
    · isplitr; · iexact Hm
      iexact H'
    iexact Hk

/-! ## Before and after the rounds -/

abbrev AllFree : sProp 𝕄 := iprop(Free E 0 ∗ Free E 1 ∗ Free E 2 ∗ Free E 3)

theorem head_step {Φ : PUnit → sProp 𝕄} :
    iprop(May d i O ∗ AllFree E ∗ copies E 0 0 ∗ Owing d i O W)
      ⊢ iprop((Mid E O W 0 (by omega) -∗ runs d i k Φ) -∗ runs d i (head i k) Φ) := by
  unfold Mid head
  iintro ⟨#Hm, ⟨Hf0, Hf1, Hf2, Hf3⟩, Hc, HO⟩ Hk
  iapply (gs_of_free E (s := 0) 0 rfl) $$ Hf0
  iintro Hi0
  iapply (gs_of_free E (s := 1) 1 rfl) $$ Hf1
  iintro Hi1
  iapply (gs_of_free E (s := 2) 2 rfl) $$ Hf2
  iintro Hi2
  iapply (gs_of_free E (s := 3) 3 rfl) $$ Hf3
  iintro Hi3
  iapply (gw_may E 0) $$ [Hi0 HO]
  · isplitr; · iexact Hm
    isplitl [Hi0]; · iexact Hi0
    iexact HO
  iintro ⟨Hh0, HO⟩
  iapply (gw_may E 1) $$ [Hi1 HO]
  · isplitr; · iexact Hm
    isplitl [Hi1]; · iexact Hi1
    iexact HO
  iintro ⟨Hh1, HO⟩
  iapply (ss_take E 0 (lo := 0) le_rfl) $$ [Hh0 Hc]
  · isplitl [Hh0]; · iexact Hh0
    iexact Hc
  iintro ⟨Ho0, Hc⟩
  iapply (ss_take E 1 (lo := 0) (Nat.zero_le _)) $$ [Hh1 Hc]
  · isplitl [Hh1]; · iexact Hh1
    iexact Hc
  iintro ⟨Ho1, Hc⟩
  iapply Hk
  isplitl [Ho0]; · iexact Ho0
  isplitl [Ho1]; · iexact Ho1
  isplitl [Hi2]; · iexact Hi2
  isplitl [Hi3]; · iexact Hi3
  isplitl [Hc]; · iexact Hc
  iexact HO

theorem tail_step {Φ : PUnit → sProp 𝕄} :
    iprop(May d i O ∗ Mid E O W 44 (by omega))
      ⊢ iprop((iprop(AllFree E ∗ copies E 49 49 ∗ Owing d i O W) -∗ runs d i k Φ) -∗ runs d i (tail i k) Φ) := by
  unfold Mid tail
  iintro ⟨#Hm, Ho0, Ho1, Hi2, Hi3, Hc, HO⟩ Hk
  iapply (sw_put E 44 (hi := 46) (by decide)) $$ [Ho0 Hc HO]
  · isplitr; · iexact Hm
    isplitl [Ho0]; · iexact Ho0
    isplitl [Hc]; · iexact Hc
    iexact HO
  iintro ⟨Hf0, Hc, HO⟩
  iapply (sw_put E 45 (hi := 46) (by decide)) $$ [Ho1 Hc HO]
  · isplitr; · iexact Hm
    isplitl [Ho1]; · iexact Ho1
    isplitl [Hc]; · iexact Hc
    iexact HO
  iintro ⟨Hf1, Hc, HO⟩
  iapply (gs_of_free E (s := slot 44) 48 rfl) $$ Hf0
  iintro Hi4
  iapply (gw_may E 46) $$ [Hi2 HO]
  · isplitr; · iexact Hm
    isplitl [Hi2]; · iexact Hi2
    iexact HO
  iintro ⟨Hh2, HO⟩
  iapply (gw_may E 47) $$ [Hi3 HO]
  · isplitr; · iexact Hm
    isplitl [Hi3]; · iexact Hi3
    iexact HO
  iintro ⟨Hh3, HO⟩
  iapply (ss_take E 46 (lo := 46) le_rfl) $$ [Hh2 Hc]
  · isplitl [Hh2]; · iexact Hh2
    iexact Hc
  iintro ⟨Ho2, Hc⟩
  iapply (ss_take E 47 (lo := 46) (by decide)) $$ [Hh3 Hc]
  · isplitl [Hh3]; · iexact Hh3
    iexact Hc
  iintro ⟨Ho3, Hc⟩
  iapply (gw_may E 48) $$ [Hi4 HO]
  · isplitr; · iexact Hm
    isplitl [Hi4]; · iexact Hi4
    iexact HO
  iintro ⟨Hh4, HO⟩
  iapply (ss_take E 48 (lo := 46) (by decide)) $$ [Hh4 Hc]
  · isplitl [Hh4]; · iexact Hh4
    iexact Hc
  iintro ⟨Ho4, Hc⟩
  iapply (sw_put E 46 (hi := 49) (by decide)) $$ [Ho2 Hc HO]
  · isplitr; · iexact Hm
    isplitl [Ho2]; · iexact Ho2
    isplitl [Hc]; · iexact Hc
    iexact HO
  iintro ⟨Hf2, Hc, HO⟩
  iapply (sw_put E 47 (hi := 49) (by decide)) $$ [Ho3 Hc HO]
  · isplitr; · iexact Hm
    isplitl [Ho3]; · iexact Ho3
    isplitl [Hc]; · iexact Hc
    iexact HO
  iintro ⟨Hf3, Hc, HO⟩
  iapply (sw_put E 48 (hi := 49) (by decide)) $$ [Ho4 Hc HO]
  · isplitr; · iexact Hm
    isplitl [Ho4]; · iexact Ho4
    isplitl [Hc]; · iexact Hc
    iexact HO
  iintro ⟨Hf0, Hc, HO⟩
  iapply Hk
  isplitl [Hf0 Hf1 Hf2 Hf3]
  · isplitl [Hf0]; · iexact Hf0
    isplitl [Hf1]; · iexact Hf1
    isplitl [Hf2]; · iexact Hf2
    iexact Hf3
  isplitl [Hc]; · iexact Hc
  iexact HO

/-- The whole schedule. -/
theorem schedule_step {Φ : PUnit → sProp 𝕄} :
    iprop(May d i O ∗ AllFree E ∗ copies E 0 0 ∗ Owing d i O W)
      ⊢ iprop((iprop(AllFree E ∗ copies E 49 49 ∗ Owing d i O W) -∗ runs d i k Φ)
          -∗ runs d i (head i <| rounds i 22 le_rfl <| tail i k) Φ) := by
  iintro ⟨#Hm, H⟩ Hk
  iapply (head_step E) $$ [H]
  · isplitr; · iexact Hm
    iexact H
  iintro H
  iapply (rounds_step E 22 le_rfl) $$ [H]
  · isplitr; · iexact Hm
    iexact H
  iintro H
  iapply (tail_step E) $$ [H]
  · isplitr; · iexact Hm
    iexact H
  iexact Hk

end Cert.Proof.Schedule

end
-- ==== Proof.Task.lean ====
/-
  One tile's task from its launch resources: the tile's stretch of the index list, its share of the table and its rows of
  the result go in; the same come out, the rows of the result filled with the rows of the table that the stretch names.
-/
module

public import proofs.«01_k».proof.Proof.Schedule

@[expose] public section

noncomputable section

namespace Cert.Proof.Task

open Cert.KernelIdeal Cert.KernelIdeal.Gen Cert.Proof.Steps Cert.Proof.Events Cert.Proof.Schedule

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (i : grid0.Coords)

/-! ## The tile's own semaphores -/

/-- The semaphore the fetch of the list completes on. -/
abbrev fCell : GSem nD τ sig := (th d i, SemLoc.dma cc0_scoped0.sem)

/-- The tile's nine semaphores: four for the gathers, four for the write-outs, one for the fetch. -/
def semOf : (Fin 4 ⊕ Fin 4) ⊕ Fin 1 → SemLoc sig
  | .inl (.inl s) => .dma (gSem s)
  | .inl (.inr s) => .dma (sSem s)
  | .inr _ => .dma cc0_scoped0.sem

theorem semOf_injective : Function.Injective semOf := by decide

def cell : (Fin 4 ⊕ Fin 4) ⊕ Fin 1 ↪ GSem nD τ sig where
  toFun x := (th d i, semOf x)
  inj' _ _ h := semOf_injective (congrArg Prod.snd h)

theorem cell_own (x : (Fin 4 ⊕ Fin 4) ⊕ Fin 1) : cell d i x ∈ ownCells (th d i) := by
  have h : ∀ x, (semOf x).isScoped .scVector = true := by decide
  exact mem_ownCells.mpr ⟨rfl, h x⟩

/-- What is left of the tile's semaphores. -/
def restSems : sProp 𝕄 := bigSep (ownCells (th d i) \ Finset.univ.map (cell d i)) fun g => semVal g 0

theorem ownSems_split :
    (ownSems0 (th d i) : sProp 𝕄)
      = iprop((((bigSep Finset.univ fun s : Fin 4 => semVal (gCell (d := d) (i := i) s) 0) ∗ (bigSep Finset.univ fun s : Fin 4 => semVal (sCell (d := d) (i := i) s) 0))
          ∗ semVal (fCell d i) 0) ∗ restSems d i) := by
  unfold SparseCore.Cfg.ownSems0 restSems
  rw [bigSep_sdiff_split (s := ownCells (th d i)) (t := Finset.univ.map (cell d i))
    (fun g hg => by obtain ⟨x, -, rfl⟩ := Finset.mem_map.mp hg; exact cell_own d i x), bigSep_map, bigSep_univ_sum, bigSep_univ_sum,
    bigSep_univ_of_subsingleton (0 : Fin 1)]
  rfl

/-! ## The tile's own buffers -/

/-- What is left of the tile's buffers. -/
def restBufs : sProp 𝕄 :=
  bigSep (((ownRefs (τ := τ) (.scVector (cV i) (jV i))).erase ((Proc.scVector (cV i) (jV i)).devRef cc0_scratch0)).erase
    ((Proc.scVector (cV i) (jV i)).devRef cc0_scratch1)) fun b => iprop(∃ f, ((d, b) : Loc nD τ sig) ↦{fullShare} f)

theorem ownBufs_split :
    (ownBufs (th d i) : sProp 𝕄)
      = iprop((∃ f, scrV.view.loc (th d i) ↦{fullShare} f) ∗ (∃ f, rowsV.view.loc (th d i) ↦{fullShare} f) ∗ restBufs d i) := by
  unfold SparseCore.Cfg.ownBufs restBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

/-! ## The row buffer in quarters -/

abbrev quarter (s : Fin 4) : Rect S2x192x2x128 :=
  Rect.unit (s := S2x192x2x128) ![s.val / 2, s.val % 2 * 96, 0, 0] S1x96x2x128.size (buf_inb s)

/-- A quarter's elements. -/
abbrev bufSet (s : Fin 4) : Finset S2x192x2x128.Idx := (bufV s).view.set

theorem bufV_set (s : Fin 4) : bufSet s = (quarter s).set := by
  show (((View.whole (cc0_scratch1 : Ref sig .scVector)).slice (quarter s)).reshape S96x2x128 Facts₀.squeezes_S1x96x2x128_S96x2x128.numel_eq).set = _
  rw [View.set_reshape]
  exact View.set_slice_whole _ _

theorem quarters_disjoint : ∀ s ∈ (Finset.univ : Finset (Fin 4)), ∀ s' ∈ (Finset.univ : Finset (Fin 4)), s ≠ s' →
    Disjoint (bufSet s) (bufSet s') := by
  intro s _ s' _ h
  rw [bufV_set, bufV_set]
  have hne : s.val ≠ s'.val := fun e => h (Fin.ext e)
  by_cases h2 : s.val / 2 = s'.val / 2
  · refine Rect.unit_disjoint 1 ?_
    show s.val % 2 * 96 + 96 ≤ s'.val % 2 * 96 ∨ s'.val % 2 * 96 + 96 ≤ s.val % 2 * 96
    omega
  · refine Rect.unit_disjoint 0 ?_
    show s.val / 2 + 1 ≤ s'.val / 2 ∨ s'.val / 2 + 1 ≤ s.val / 2
    omega

theorem quarters_cover : (Finset.univ : Finset (Fin 4)).biUnion bufSet = Finset.univ := by
  refine Finset.eq_univ_iff_forall.mpr fun x => ?_
  have h0 : (x 0).val < 2 := (x 0).isLt
  have h1 : (x 1).val < 192 := (x 1).isLt
  have h2 : (x 2).val < 2 := (x 2).isLt
  have h3 : (x 3).val < 128 := (x 3).isLt
  refine Finset.mem_biUnion.mpr ⟨⟨2 * (x 0).val + (x 1).val / 96, by omega⟩, Finset.mem_univ _, ?_⟩
  rw [bufV_set]
  refine Rect.mem_set_unit.mpr fun a => ?_
  match a with
  | 0 =>
    show (2 * (x 0).val + (x 1).val / 96) / 2 ≤ (x 0).val ∧ (x 0).val < (2 * (x 0).val + (x 1).val / 96) / 2 + 1
    omega
  | 1 =>
    show (2 * (x 0).val + (x 1).val / 96) % 2 * 96 ≤ (x 1).val ∧ (x 1).val < (2 * (x 0).val + (x 1).val / 96) % 2 * 96 + 96
    omega
  | 2 => show 0 ≤ (x 2).val ∧ (x 2).val < 0 + 2; omega
  | 3 => show 0 ≤ (x 3).val ∧ (x 3).val < 0 + 128; omega

theorem rows_split (f : Buf (Elt F) (rowsV.view.loc (th d i))) :
    (rowsV.view.loc (th d i) ↦{fullShare} f : sProp 𝕄) = bigSep Finset.univ fun s : Fin 4 => bufPart (d := d) (i := i) s f := by
  unfold bufPart
  rw [← pointsTo_biUnion Finset.univ (ℓ := rowsV.view.loc (th d i)) bufSet quarters_disjoint, quarters_cover]

theorem rows_join [∀ e, Nonempty (Elt F e)] :
    (bigSep Finset.univ fun s : Fin 4 => iprop(∃ f, bufPart (F := F) (d := d) (i := i) s f)) ⊢ (iprop(∃ f, rowsV.view.loc (th d i) ↦{fullShare} f) : sProp 𝕄) := by
  unfold bufPart
  have : ∀ s : Fin 4, Nonempty (Buf (Elt F) ((bufV s).view.loc (th d i))) := fun s => ⟨fun _ => Classical.choice inferInstance⟩
  refine (bigSep_exists_pi Finset.univ (fun s (f : Buf (Elt F) ((bufV s).view.loc (th d i))) =>
    ((bufV s).view.loc (th d i) ↦[(bufV s).view.set]{fullShare} f : sProp 𝕄))).trans ?_
  iintro ⟨%fs, H⟩
  ihave H' := (pointsTo_biUnion_join (ℓ := rowsV.view.loc (th d i)) (q := fullShare) (Val := Elt F) Finset.univ bufSet fs (fs 0)
    quarters_disjoint) $$ H
  icases H' with ⟨%g, -, Hg⟩
  rw [quarters_cover]
  iexists g; iexact Hg

/-! ## Shares -/

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

variable {d i} (E : Env F d i)

/-- The tile's share of the whole table. -/
def tabShare : sProp 𝕄 := tableV.view.loc (th d i) ↦{E.q} E.tab

/-- What the copies do not use of it. -/
def tabRest : sProp 𝕄 :=
  iprop((tabV.view.loc (th d i) ↦[tabV.view.set]{Transfers.shareDrop E.q 4} E.tab)
    ∗ (tabV.view.loc (th d i) ↦[Finset.univ \ tabV.view.set]{E.q} E.tab))

theorem tab_split : (tabShare E : sProp 𝕄) ⊣⊢ iprop((bigSep Finset.univ fun s : Fin 4 => tabPart E s) ∗ tabRest E) := by
  have h1 := pointsTo_split_subset (Val := Elt F) (Name := ℕ) (U := UU) (Lvl := ℕ) (Ix := HIx 1) (ℓ := tabV.view.loc (th d i)) (q := E.q) (f := E.tab) (S := Finset.univ) (Finset.subset_univ tabV.view.set)
  have h2 := Transfers.pointsTo_toks (Val := Elt F) (Name := ℕ) (U := UU) (Ix := HIx 1) (Lvl := ℕ) (ℓ := tabV.view.loc (th d i)) (S := tabV.view.set) (f := E.tab) E.q 4
  unfold tabShare tabRest tabPart
  constructor
  · iintro H
    ihave H := h1.1 $$ H
    icases H with ⟨H, Hr⟩
    ihave H := h2.1 $$ H
    icases H with ⟨Hd, H⟩
    isplitl [H]; · iexact H
    isplitl [Hd] <;> iassumption
  · iintro ⟨H, Hd, Hr⟩
    iapply h1.2
    isplitr [Hr]
    · iapply h2.2
      isplitl [Hd] <;> iassumption
    iexact Hr

theorem idx_split :
    (scrV.view.loc (th d i) ↦{fullShare} E.idx : sProp 𝕄)
      ⊣⊢ iprop((scrV.view.loc (th d i) ↦{Transfers.shareDrop fullShare 4} E.idx) ∗ bigSep Finset.univ fun s : Fin 4 => idxPart E s) :=
  Transfers.pointsTo_toks fullShare 4

/-- The four quarters, free. -/
theorem free_split :
    (bigSep Finset.univ fun s : Fin 4 => Free E s)
      = iprop((bigSep Finset.univ fun s : Fin 4 => iprop(∃ f, bufPart (F := F) (d := d) (i := i) s f))
          ∗ (bigSep Finset.univ fun s : Fin 4 => semVal (gCell (d := d) (i := i) s) 0)
          ∗ (bigSep Finset.univ fun s : Fin 4 => semVal (sCell (d := d) (i := i) s) 0)
          ∗ (bigSep Finset.univ fun s : Fin 4 => tabPart E s) ∗ bigSep Finset.univ fun s : Fin 4 => idxPart E s) := by
  unfold Free
  rw [bigSep_sep', bigSep_sep', bigSep_sep', bigSep_sep']

/-! ## The fetch of the list -/

/-- The tile's stretch of the index list. -/
def listPart (d : Dev nD) (i : grid0.Coords) (L : Buf (Elt F) (listV.view.loc (th d i))) : sProp 𝕄 :=
  (ownV i).view.loc (th d i) ↦[(ownV i).view.set]{fullShare} L

variable [FloatOps F]
variable {O : CellTallies nD τ sig (HIx 1)} {W : Waits sig (HIx 1)}

theorem fetch_step (L : Buf (Elt F) (listV.view.loc (th d i))) (f : Buf (Elt F) (scrV.view.loc (th d i)))
    (hidx : E.idx = (ownV i).view.read (Elt F) L) {k : Prog (Tile (F := F) i) PUnit} {Φ : PUnit → sProp 𝕄} :
    iprop(May d i O ∗ listPart d i L ∗ (scrV.view.loc (th d i) ↦{fullShare} f) ∗ semVal (fCell d i) 0 ∗ Owing d i O W)
      ⊢ iprop((iprop(listPart d i L ∗ (scrV.view.loc (th d i) ↦{fullShare} E.idx) ∗ semVal (fCell d i) 0 ∗ Owing d i O W) -∗ runs d i k Φ)
          -∗ runs d i (fetch i k) Φ) := by
  unfold listPart fetch runs Owing
  have hl : E.idx = scrV.view.write (Elt F) f
      ((ReadAs.same : ReadAs (Elt F) S6144 .i32 S6144 .i32).apply ((ownV i).view.read (Elt F) L)) Finset.univ := by
    rw [ReadAs.apply_same, hidx]
    exact (View.write_whole_univ (cc0_scratch0 : Ref sig .scVector) f _).symm
  rw [hl]
  iintro ⟨Hm, HL, Hs, Hv, %W', %hW, HO⟩ Hk
  iapply (Transfers.wp_dmaLocal countersEmb 𝒱₀ (th d i) none (default : HIx 1) (scrV.view.amount (.dma cc0_scoped0.sem)) rfl
      (View.dmaCredit_pos _ (by decide)) (Finset.subset_univ _)) $$ [HL Hs Hv]
  · isplitl [HL]; · iexact HL
    isplitl [Hs]; · iexact Hs
    iexact Hv
  iintro Hf
  iapply (Transfers.wp_waitLocalO countersEmb 𝒱₀ (th d i) none (default : HIx 1) (rfl : scrV.view.dmaCredit = _)) $$ [Hf HO Hm]
  · isplitl [Hf]; · iexact Hf
    isplitl [HO]; · iexact HO
    iapply (Transfers.MayWaits.elim (SemLoc.dma cc0_scoped0.sem)) $$ Hm
  iintro ⟨⟨Hs, HL⟩, Hv, HO⟩
  iapply Hk
  isplitl [HL]; · iexact HL
  isplitl [Hs]; · iexact Hs
  isplitl [Hv]; · iexact Hv
  iexists _; isplitr
  swap; · iexact HO
  ipureintro; exact owing_insert _ hW

/-! ## The task -/

/-- What the task takes, -/
def taskIn (L : Buf (Elt F) (listV.view.loc (th d i))) : sProp 𝕄 :=
  iprop(listPart d i L ∗ tabShare E ∗ bigSep Finset.univ fun c : Fin 49 => outPart c E.old)
/-- and what it brings back. -/
def taskOut (L : Buf (Elt F) (listV.view.loc (th d i))) : sProp 𝕄 :=
  iprop(listPart d i L ∗ tabShare E ∗ bigSep Finset.univ fun c : Fin 49 => outPart c (landed E c))

theorem tile_body [∀ e, Nonempty (Elt F e)] (hF : (K (F := F)).Facts) (L : Buf (Elt F) (listV.view.loc (th d i))) (hidx : E.idx = (ownV i).view.read (Elt F) L)
    (O : CellTallies nD τ sig (HIx 1)) (W : Waits sig (HIx 1)) (hO : ∀ g, O g none = 0) :
    iprop(levAts (K (F := F)).L (K (F := F)).lev ∗ emp ∗ taskIn E L
        ∗ scopedBufs (th d i) ∗ scopedSems0 (th d i) ∗ owes (th d i) O W)
      ⊢ wp frame (wpE (defs₀ (F := F)) 𝒱₀ (th d i) none) Set.univ
          (cc0_sc_gather (F := F) i listV (Memref.isWhole_whole _) tableV (Memref.isWhole_whole _) resV (Memref.isWhole_whole _)
            scrV (Memref.isWhole_whole _) rowsV (Memref.isWhole_whole _) cc0_scratch2 cc0_scratch3 cc0_scratch4 cc0_scratch5
            cc0_scratch6 cc0_scratch7 cc0_scratch8 cc0_scratch9 cc0_scoped0)
          fun _ => iprop(taskOut E L ∗ scopedBufs (th d i) ∗ scopedSems0 (th d i)
            ∗ ∃ W', ⌜∀ p ∈ W', p ∈ W ∨ p.2 = none⌝ ∗ owes (th d i) O W') := by
  rw [cc0_sc_gather_eq, (K (F := F)).scopedBufs_V hF d (cV i) (jV i), SparseCore.Cfg.scopedSems0_V (Val := Elt F) d (cV i) (jV i),
    ownSems_split, ownBufs_split]
  unfold taskIn taskOut Steps.body
  rw [← copies_none, ← copies_all]
  iintro ⟨#Hlv, -, ⟨HL, Ht, Hc⟩, ⟨⟨%fs, Hs⟩, ⟨%fr, Hr⟩, Hbufs⟩, ⟨⟨⟨Hg, Hw⟩, Hv⟩, Hsems⟩, HO⟩
  ihave #Hm := (show levAts (K (F := F)).L (K (F := F)).lev ⊢ May (F := F) d i O from
    (K (F := F)).mayWaits_none (thr := th d i) hO) $$ Hlv
  iapply (fetch_step E (O := O) (W := W) L fs hidx) $$ [HL Hs Hv HO]
  · isplitr; · iexact Hm
    isplitl [HL]; · iexact HL
    isplitl [Hs]; · iexact Hs
    isplitl [Hv]; · iexact Hv
    unfold Owing
    iexists W; isplitr
    swap; · iexact HO
    ipureintro; exact fun p hp => .inl hp
  iintro ⟨HL, Hs, Hv, HO⟩
  ihave Ht := (tab_split E).1 $$ Ht
  icases Ht with ⟨Ht, Htr⟩
  ihave Hs := (idx_split E).1 $$ Hs
  icases Hs with ⟨Hsr, Hs⟩
  ihave Hr := (Entails.of_eq (rows_split d i fr)) $$ Hr
  ihave Hr := (show (bigSep Finset.univ fun s : Fin 4 => bufPart (d := d) (i := i) s fr) ⊢
      (bigSep Finset.univ fun s : Fin 4 => iprop(∃ f, bufPart (F := F) (d := d) (i := i) s f) : sProp 𝕄) from
    bigSep_mono fun s _ => show (bufPart (d := d) (i := i) s fr : sProp 𝕄) ⊢ iprop(∃ f, bufPart (d := d) (i := i) s f) by
      iintro H; iexists fr; iexact H) $$ Hr
  ihave Hf := (Entails.of_eq ((free_split E).symm.trans (bigSep_four _))) $$ [Hr Hg Hw Ht Hs]
  · isplitl [Hr]; · iexact Hr
    isplitl [Hg]; · iexact Hg
    isplitl [Hw]; · iexact Hw
    isplitl [Ht]; · iexact Ht
    iexact Hs
  iapply (schedule_step E (O := O) (W := W)) $$ [Hf Hc HO]
  · isplitr; · iexact Hm
    isplitl [Hf]; · iexact Hf
    isplitl [Hc]; · iexact Hc
    iexact HO
  iintro ⟨Hf, Hc, HO⟩
  ihave Hf := (Entails.of_eq ((bigSep_four _).symm.trans (free_split E))) $$ Hf
  icases Hf with ⟨Hr, Hg, Hw, Ht, Hs⟩
  unfold runs
  rw [wp_ret]
  imodintro
  isplitl [HL Ht Htr Hc]
  · isplitl [HL]; · iexact HL
    isplitl [Ht Htr]
    · iapply (tab_split E).2
      isplitl [Ht] <;> iassumption
    iexact Hc
  isplitl [Hs Hsr Hr Hbufs]
  · isplitl [Hs Hsr]
    · iexists E.idx
      iapply (idx_split E).2
      isplitl [Hsr] <;> iassumption
    isplitl [Hr]
    · iapply (rows_join d i); iexact Hr
    iexact Hbufs
  isplitl [Hg Hw Hv Hsems]
  · isplitr [Hsems]
    · isplitr [Hv]
      · isplitl [Hg] <;> iassumption
      iexact Hv
    iexact Hsems
  unfold Owing
  iexact HO

end Cert.Proof.Task

end
-- ==== Proof.Host.lean ====
/-
  The program around the call of the kernel: the lines of host operations before it, which lay the table out in rows and
  build the index list, and the one after it, which gives the result its shape.
-/
module

public import proofs.«01_k».proof.Proof.Task
public import Idealize.ShloMosaic.Lib.Pipeline.Frame
public import Idealize.ShloMosaic.Lib.StableHlo.RunRead
public import Idealize.ShloMosaic.Lib.StableHlo.ReadAt

@[expose] public section

noncomputable section

namespace Cert.Proof.Host

open Cert.KernelIdeal Cert.KernelIdeal.Gen Cert.Proof.Task

open Idealize.ShloMosaic
open Idealize.SL.Sem

variable {F : FTy → Type} [FloatOps F]

abbrev Op (F : FTy → Type) : Type _ := HloOp τ sig (Elt F)

/-- Batch of every list position: the position over a hundred and ninety-six, rounded down. -/
def opsDiv : List (Op F) := [
  StableHlo.TRef.unary (.of main_c) (.of main_call0_v0) id,
  StableHlo.TRef.unary (.of main_call0_v0) (.of main_call0_v1) (broadcastInDim S1568 ![] Facts₀.bcast_S_S1568),
  StableHlo.TRef.binary (.of main_v2) (.of main_call0_v1) (.of main_call0_v2) Host.divsi,
  StableHlo.TRef.unary (.of main_v2) (.of main_call0_v3) signi,
  StableHlo.TRef.unary (.of main_call0_v0) (.of main_call0_v4) signi,
  StableHlo.TRef.unary (.of main_call0_v4) (.of main_call0_v5) (broadcastInDim S1568 ![] Facts₀.bcast_S_S1568),
  StableHlo.TRef.binary (.of main_call0_v3) (.of main_call0_v5) (.of main_call0_v6) (cmpi .ne),
  StableHlo.TRef.unary (.of main_call0_v0) (.of main_call0_v7) (broadcastInDim S1568 ![] Facts₀.bcast_S_S1568),
  StableHlo.TRef.binary (.of main_v2) (.of main_call0_v7) (.of main_call0_v8) Host.remsi,
  StableHlo.TRef.nullary (.of main_call0_c) (constantI S_ 32 0#32),
  StableHlo.TRef.unary (.of main_call0_c) (.of main_call0_v9) (broadcastInDim S1568 ![] Facts₀.bcast_S_S1568),
  StableHlo.TRef.binary (.of main_call0_v8) (.of main_call0_v9) (.of main_call0_v10) (cmpi .ne),
  StableHlo.TRef.binary (.of main_call0_v6) (.of main_call0_v10) (.of main_call0_v11) andi,
  StableHlo.TRef.nullary (.of main_call0_c_0) (constantI S_ 32 1#32),
  StableHlo.TRef.unary (.of main_call0_c_0) (.of main_call0_v12) (broadcastInDim S1568 ![] Facts₀.bcast_S_S1568),
  StableHlo.TRef.binary (.of main_call0_v2) (.of main_call0_v12) (.of main_call0_v13) subi,
  StableHlo.TRef.ternary (.of main_call0_v11) (.of main_call0_v13) (.of main_call0_v2) (.of main_v3) select]

/-- Before it: the table in rows, the argument flat, the positions. -/
def opsPre : List (Op F) := [
  StableHlo.reshape main_arg1 main_v0 (rfl : (.f32 : EltTy) = .f32) Facts₀.shapeCasts_S8x49x64x384_S37632x2x128,
  StableHlo.reshape main_arg0 main_v1 (rfl : (.i32 : EltTy) = .i32) Facts₀.shapeCasts_S8x49x4_S1568,
  StableHlo.nullary main_v2 (iotaInDim S1568 32 0),
  StableHlo.nullary main_c (constantI S_ 32 196#32)]

/-- After it: the rows' numbers, each tile's stretch padded to the length its scratch holds. -/
def opsPost : List (Op F) := [
  StableHlo.nullary main_c_0 (constantI S_ 32 49#32),
  StableHlo.unary main_c_0 main_v4 (broadcastInDim S1568 ![] Facts₀.bcast_S_S1568 : (⟨S_, .i32⟩ : BufTy).Contents (Elt F) → (⟨S1568, .i32⟩ : BufTy).Contents (Elt F)),
  StableHlo.binary main_v3 main_v4 main_v5 (muli : (⟨S1568, .i32⟩ : BufTy).Contents (Elt F) → (⟨S1568, .i32⟩ : BufTy).Contents (Elt F) → (⟨S1568, .i32⟩ : BufTy).Contents (Elt F)),
  StableHlo.binary main_v1 main_v5 main_v6 (addi : (⟨S1568, .i32⟩ : BufTy).Contents (Elt F) → (⟨S1568, .i32⟩ : BufTy).Contents (Elt F) → (⟨S1568, .i32⟩ : BufTy).Contents (Elt F)),
  StableHlo.unary main_v6 main_v7 (broadcastInDim S1568x1 ![0] Facts₀.bcast_S1568_S1568x1_0 : (⟨S1568, .i32⟩ : BufTy).Contents (Elt F) → (⟨S1568x1, .i32⟩ : BufTy).Contents (Elt F)),
  StableHlo.nullary main_c_1 (constantI S_ 32 96#32),
  StableHlo.unary main_c_1 main_v8 (broadcastInDim S1568x1 ![] Facts₀.bcast_S_S1568x1 : (⟨S_, .i32⟩ : BufTy).Contents (Elt F) → (⟨S1568x1, .i32⟩ : BufTy).Contents (Elt F)),
  StableHlo.binary main_v7 main_v8 main_v9 (muli : (⟨S1568x1, .i32⟩ : BufTy).Contents (Elt F) → (⟨S1568x1, .i32⟩ : BufTy).Contents (Elt F) → (⟨S1568x1, .i32⟩ : BufTy).Contents (Elt F)),
  StableHlo.nullary main_v10 (iotaInDim S96 32 0),
  StableHlo.unary main_v10 main_v11 (broadcastInDim S1x96 ![1] Facts₀.bcast_S96_S1x96_1 : (⟨S96, .i32⟩ : BufTy).Contents (Elt F) → (⟨S1x96, .i32⟩ : BufTy).Contents (Elt F)),
  StableHlo.unary main_v9 main_v12 (broadcastInDim S1568x96 ![0, 1] Facts₀.bcast_S1568x1_S1568x96_0_1 : (⟨S1568x1, .i32⟩ : BufTy).Contents (Elt F) → (⟨S1568x96, .i32⟩ : BufTy).Contents (Elt F)),
  StableHlo.unary main_v11 main_v13 (broadcastInDim S1568x96 ![0, 1] Facts₀.bcast_S1x96_S1568x96_0_1 : (⟨S1x96, .i32⟩ : BufTy).Contents (Elt F) → (⟨S1568x96, .i32⟩ : BufTy).Contents (Elt F)),
  StableHlo.binary main_v12 main_v13 main_v14 (addi : (⟨S1568x96, .i32⟩ : BufTy).Contents (Elt F) → (⟨S1568x96, .i32⟩ : BufTy).Contents (Elt F) → (⟨S1568x96, .i32⟩ : BufTy).Contents (Elt F)),
  StableHlo.reshape main_v14 main_v15 (rfl : (.i32 : EltTy) = .i32) Facts₀.shapeCasts_S1568x96_S32x4704,
  StableHlo.nullary main_c_2 (constantI S_ 32 0#32),
  StableHlo.TRef.unary (.of main_c_2) (.of main_call1_v0) id,
  StableHlo.TRef.binary (.of main_v15 : StableHlo.TRef sig ⟨S32x4704, .i32⟩) (.of main_call1_v0 : StableHlo.TRef sig ⟨S_, .i32⟩) (.of main_v16 : StableHlo.TRef sig ⟨S32x6144, .i32⟩)
    (fun x v => pad S32x6144 ![0, 0] ![0, 1440] ![0, 0] x v Facts₀.pads_S32x4704_S32x6144_000_014400 Facts₀.h_S_),
  StableHlo.reshape main_v16 main_v17 (rfl : (.i32 : EltTy) = .i32) Facts₀.shapeCasts_S32x6144_S196608]

/-- Every operation before the call, -/
def opsIn : List (Op F) := opsPre ++ (opsDiv ++ opsPost)
/-- and the one after it. -/
def opsOut : List (Op F) :=
  [StableHlo.reshape main_v18 main_v19 (rfl : (.f32 : EltTy) = .f32) Facts₀.shapeCasts_S150528x2x128_S8x49x4x64x384]

set_option maxRecDepth 100000 in
theorem main_eq (d : Dev nD) : main (F := F) d = StableHlo.seq opsIn >>= fun _ => ((K (F := F)).run d 0 >>= fun _ => StableHlo.seq opsOut) := by
  rfl

theorem in_sub : (opsIn (F := F)).Forall fun op => op.bufs ⊆ StableHlo.tcRefs τ sig := by
  simp only [opsIn, opsPre, opsDiv, opsPost, List.cons_append, List.nil_append, List.forall_cons, List.Forall, StableHlo.nullary_bufs_sub, StableHlo.unary_bufs_sub,
    StableHlo.binary_bufs_sub, StableHlo.ternary_bufs_sub, StableHlo.reshape_bufs_sub, StableHlo.TRef.unary, StableHlo.TRef.nullary, StableHlo.TRef.binary, StableHlo.TRef.ternary, and_self]

theorem in_fresh : (opsIn (F := F)).Forall fun op => op.fresh = ∅ := StableHlo.forall_fresh_of_map rfl

theorem out_sub : (opsOut (F := F)).Forall fun op => op.bufs ⊆ StableHlo.tcRefs τ sig := by
  simp only [opsOut, List.Forall, StableHlo.reshape_bufs_sub]

theorem out_fresh : (opsOut (F := F)).Forall fun op => op.fresh = ∅ := StableHlo.forall_fresh_of_map rfl

theorem in_keeps (V : Valuation τ sig (Elt F)) {r : Ref sig .tc} (hr : r = main_arg0 ∨ r = main_arg1 ∨ r = main_v18) :
    StableHlo.after opsIn V (Proc.devRef .tc r) = V (Proc.devRef .tc r) := by
  refine StableHlo.after_of_writes_sub opsIn V (StableHlo.forall_writes_sub_of_map (W := [main_v0, main_v1, main_v2, main_c, main_call0_v0, main_call0_v1, main_call0_v2, main_call0_v3,
    main_call0_v4, main_call0_v5, main_call0_v6, main_call0_v7, main_call0_v8, main_call0_c, main_call0_v9, main_call0_v10, main_call0_v11, main_call0_c_0, main_call0_v12,
    main_call0_v13, main_v3, main_c_0, main_v4, main_v5, main_v6, main_v7, main_c_1, main_v8, main_v9, main_v10, main_v11, main_v12, main_v13, main_v14, main_v15, main_c_2,
    main_call1_v0, main_v16, main_v17]) rfl) ?_
  rcases hr with rfl | rfl | rfl <;> decide

end Cert.Proof.Host

end
-- ==== Proof.Rows.lean ====
/-
  What a tile leaves in its rows of the result, in closed form: row `x` of the result is the row of the table that the
  index list names for it.
-/
module

public import proofs.«01_k».proof.Proof.Task
public import Idealize.ShloMosaic.Lib.PointwiseCore

@[expose] public section

noncomputable section

namespace Cert.Proof.Rows

open Cert.KernelIdeal Cert.KernelIdeal.Gen Cert.Proof.Steps Cert.Proof.Events Cert.Proof.Task

open Idealize.ShloMosaic
open Idealize.SL Idealize.SL.Sem Idealize.SL.RA

variable {F : FTy → Type}

/-- Where the index list names row `x` of the result: the tile's stretch, then the row's place among the tile's rows. -/
def place (n : Fin 150528) : S196608.Idx :=
  ix1 ⟨n.val / 4704 * 6144 + n.val % 4704, by have := n.isLt; omega⟩

/-- The result, as the table and the index list give it. -/
def res (tab : S37632x2x128.Idx → Elt F .f32) (L : S196608.Idx → BitVec 32) : S150528x2x128.Idx → Elt F .f32 :=
  fun x => tab (ix3 ⟨(L (place (x 0))).toNat % 37632, Nat.mod_lt _ (by decide)⟩ (x 1) (x 2))

/-- Every entry of the list is a row of the table. -/
def InRange (L : S196608.Idx → BitVec 32) : Prop := ∀ n, (L n).toNat < 37632

variable {d : Dev nD} {i : grid0.Coords}

/-- What stays fixed while tile `i` runs. -/
def env (i : grid0.Coords) (q : PosShare TreeShare) (tab : S37632x2x128.Idx → Elt F .f32) (L : S196608.Idx → BitVec 32)
    (old : S150528x2x128.Idx → Elt F .f32) (h : InRange L) : Env F d i where
  q := q
  tab := tab
  idx := (ownV i).view.read (Elt F) L
  old := old
  inRange := fun _ _ => h _

theorem own_emb (y : S6144.Idx) : ((ownV i).view.emb y) = (ix1 ⟨6144 * ((i 1).val * 2 + (i 0).val) + (y 0).val, by
    have h0 : (i 0).val < 2 := (i 0).isLt
    have h1 : (i 1).val < 16 := (i 1).isLt
    have h2 : (y 0).val < 6144 := (y 0).isLt
    omega⟩ : S196608.Idx) := by
  funext a
  match a with
  | 0 =>
    refine Fin.ext ?_
    show k0_off1 i 0 + 1 * (y 0).val = 6144 * ((i 1).val * 2 + (i 0).val) + (y 0).val
    rw [k0_off1_eq]
    show 12288 * (i 1).val + 6144 * (i 0).val + 1 * (y 0).val = _
    omega

theorem out_emb (c : Fin 49) (y : S96x2x128.Idx) (a : Fin 3) : ((outV i c).view.emb y a).val
    = (![4704 * ((i 1).val * 2 + (i 0).val) + 96 * c.val, 0, 0] : Fin 3 → ℕ) a + (y a).val := by
  show k0_off2 i (BitVec.ofNat 32 (96 * c.val)) a + 1 * (y a).val = _
  rw [k0_off2_eq]
  match a with
  | 0 =>
    show 9408 * (i 1).val + 4704 * (i 0).val + 96 * c.val + 1 * (y 0).val = 4704 * ((i 1).val * 2 + (i 0).val) + 96 * c.val + (y 0).val
    omega
  | 1 => show 0 + 1 * (y 1).val = 0 + (y 1).val; omega
  | 2 => show 0 + 1 * (y 2).val = 0 + (y 2).val; omega

theorem entry (L : S196608.Idx → BitVec 32) (c : Fin 49) (y : S96x2x128.Idx) (k : Fin 96) (hk : k.val = (y 0).val) :
    (idxV c).view.read (Elt F) ((ownV i).view.read (Elt F) L) (S96.rowMajor.symm (k.cast rfl)) = L (place ((outV i c).view.emb y 0)) := by
  show L ((ownV i).view.emb ((idxV c).view.emb (S96.rowMajor.symm (k.cast rfl)))) = _
  rw [own_emb]
  refine congrArg L (funext fun a => ?_)
  match a with
  | 0 =>
    refine Fin.ext ?_
    have hr : (S96.rowMajor.symm (k.cast rfl) 0).val = k.val := by
      have e := congrArg Fin.val (S96.rowMajor.apply_symm_apply (k.cast rfl))
      rw [Shape.rowMajor_val_one] at e
      exact e
    have he : ((idxV c).view.emb (S96.rowMajor.symm (k.cast rfl)) 0).val = 96 * c.val + k.val := by
      show 96 * c.val + 1 * (S96.rowMajor.symm (k.cast rfl) 0).val = _
      omega
    show 6144 * ((i 1).val * 2 + (i 0).val) + ((idxV c).view.emb (S96.rowMajor.symm (k.cast rfl)) 0).val
      = ((outV i c).view.emb y 0).val / 4704 * 6144 + ((outV i c).view.emb y 0).val % 4704
    rw [he, out_emb]
    show 6144 * ((i 1).val * 2 + (i 0).val) + (96 * c.val + k.val)
      = (4704 * ((i 1).val * 2 + (i 0).val) + 96 * c.val + (y 0).val) / 4704 * 6144
        + (4704 * ((i 1).val * 2 + (i 0).val) + 96 * c.val + (y 0).val) % 4704
    have hc := c.isLt
    have hk' := k.isLt
    omega

theorem gather_axis (r : Fin 96 → Fin 37632) (y : S96x2x128.Idx) (a : Fin 3) :
    (Facts₀.gathers_S37632x2x128_S96x2x128.idx r y a).val = (![(r (y 0)).val, (y 1).val, (y 2).val] : Fin 3 → ℕ) a := by
  match a with
  | 0 => exact congrArg Fin.val (Facts₀.gathers_S37632x2x128_S96x2x128.idx_axis r y)
  | 1 => exact Facts₀.gathers_S37632x2x128_S96x2x128.idx_of_ne r y (b := 1) (by decide)
  | 2 => exact Facts₀.gathers_S37632x2x128_S96x2x128.idx_of_ne r y (b := 2) (by decide)

theorem tab_emb (r : Fin 96 → Fin 37632) (y : S96x2x128.Idx) (z : S37632x2x128.Idx) (h0 : (r (y 0)).val = (z 0).val)
    (h1 : (y 1).val = (z 1).val) (h2 : (y 2).val = (z 2).val) :
    tabV.view.emb (Facts₀.gathers_S37632x2x128_S96x2x128.idx r y) = z := by
  funext a
  refine Fin.ext ?_
  have ha : ((tabV.view.emb (Facts₀.gathers_S37632x2x128_S96x2x128.idx r y)) a).val
      = (Facts₀.gathers_S37632x2x128_S96x2x128.idx r y a).val := by
    show (![0, 0, 0] : Fin 3 → ℕ) a + 1 * (Facts₀.gathers_S37632x2x128_S96x2x128.idx r y a).val = _
    match a with
    | 0 | 1 | 2 => exact (Nat.zero_add _).trans (Nat.one_mul _)
  rw [ha, gather_axis]
  match a with
  | 0 => exact h0
  | 1 => exact h1
  | 2 => exact h2

theorem landed_eq (q : PosShare TreeShare) (tab : S37632x2x128.Idx → Elt F .f32) (L : S196608.Idx → BitVec 32)
    (old : S150528x2x128.Idx → Elt F .f32) (h : InRange L) (c : Fin 49) :
    ∀ x ∈ (outV i c).view.set, landed (env (d := d) i q tab L old h) c x = res tab L x := by
  intro x hx
  obtain ⟨y, -, rfl⟩ := Finset.mem_map.mp hx
  unfold landed
  rw [View.write_emb_of_mem _ _ (Finset.mem_univ y)]
  have h0 : (SparseCore.rows ((idxV c).view.read (Elt F) ((ownV i).view.read (Elt F) L)) rfl (fun _ => h _) (y 0) : Fin 37632).val
      = (L (place ((outV i c).view.emb y 0))).toNat % 37632 := by
    rw [Nat.mod_eq_of_lt (h _), ← entry (F := F) L c y (y 0) rfl]
    rfl
  exact congrArg tab (tab_emb _ y _ h0 ((out_emb c y 1).trans (Nat.zero_add _)).symm ((out_emb c y 2).trans (Nat.zero_add _)).symm)

end Cert.Proof.Rows

end
-- ==== Proof.Launch.lean ====
/-
  The run of the whole program: the host's operations, the call of the kernel on every tile of both SparseCores, and the
  reshape of the result. Every tile takes its stretch of the index list, a share of the table and its rows of the result,
  and brings them back with the rows of the result written.
-/
module

public import proofs.«01_k».proof.Proof.Host
public import proofs.«01_k».proof.Proof.Rows

@[expose] public section

noncomputable section

namespace Cert.Proof.Launch

open Cert.KernelIdeal Cert.KernelIdeal.Gen Cert.Proof.Steps Cert.Proof.Events Cert.Proof.Task Cert.Proof.Host Cert.Proof.Rows

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

/-- The tile's coordinates in the grid. -/
def at' (c : Fin 2) (j : Fin 16) : grid0.Coords :=
  fun | 0 => c | 1 => j | ⟨_ + 2, h⟩ => absurd h (Nat.not_lt.2 (Nat.le_add_left _ _))

/-! ## The buffers the call takes -/

abbrev lLoc (d : Dev nD) : Loc nD τ sig := (SparseCore.T d).loc main_v17
abbrev tLoc (d : Dev nD) : Loc nD τ sig := (SparseCore.T d).loc main_v0
abbrev rLoc (d : Dev nD) : Loc nD τ sig := (SparseCore.T d).loc main_v18

/-- The tile's stretch of the list, -/
abbrev ownSet (p : Fin 2 × Fin 16) : Finset S196608.Idx := (ownV (at' p.1 p.2)).view.set
/-- and a copy's rows of the result. -/
abbrev outSet (p : (Fin 2 × Fin 16) × Fin 49) : Finset S150528x2x128.Idx := (outV (at' p.1.1 p.1.2) p.2).view.set

theorem mem_ownSet (p : Fin 2 × Fin 16) (x : S196608.Idx) : x ∈ ownSet p ↔ (x 0).val / 6144 = p.2.val * 2 + p.1.val := by
  have e : ownSet p = (Rect.unit (s := S196608) (k0_off1 (at' p.1 p.2)) S6144.size (Facts₀.k0_off1_inb (at' p.1 p.2))).set :=
    View.set_slice_whole _ _
  rw [e, Rect.mem_set_unit, k0_off1_eq]
  constructor
  · intro h
    have h0 : 12288 * p.2.val + 6144 * p.1.val ≤ (x 0).val ∧ (x 0).val < 12288 * p.2.val + 6144 * p.1.val + 6144 := h 0
    omega
  · intro h a
    match a with
    | 0 =>
      show 12288 * p.2.val + 6144 * p.1.val ≤ (x 0).val ∧ (x 0).val < 12288 * p.2.val + 6144 * p.1.val + 6144
      omega

theorem mem_outSet (p : (Fin 2 × Fin 16) × Fin 49) (x : S150528x2x128.Idx) :
    x ∈ outSet p ↔ (x 0).val / 4704 = p.1.2.val * 2 + p.1.1.val ∧ (x 0).val % 4704 / 96 = p.2.val := by
  have e : outSet p = (Rect.unit (s := S150528x2x128) (k0_off2 (at' p.1.1 p.1.2) (BitVec.ofNat 32 (96 * p.2.val))) S96x2x128.size
      (Facts₀.k0_off2_inb (at' p.1.1 p.1.2) p.2)).set := View.set_slice_whole _ _
  have hp := p.2.isLt
  rw [e, Rect.mem_set_unit, k0_off2_eq]
  constructor
  · intro h
    have h0 : 9408 * p.1.2.val + 4704 * p.1.1.val + 96 * p.2.val ≤ (x 0).val
      ∧ (x 0).val < 9408 * p.1.2.val + 4704 * p.1.1.val + 96 * p.2.val + 96 := h 0
    omega
  · intro h a
    have h1 : (x 1).val < 2 := (x 1).isLt
    have h2 : (x 2).val < 128 := (x 2).isLt
    match a with
    | 0 =>
      show 9408 * p.1.2.val + 4704 * p.1.1.val + 96 * p.2.val ≤ (x 0).val
        ∧ (x 0).val < 9408 * p.1.2.val + 4704 * p.1.1.val + 96 * p.2.val + 96
      omega
    | 1 => show 0 ≤ (x 1).val ∧ (x 1).val < 0 + 2; omega
    | 2 => show 0 ≤ (x 2).val ∧ (x 2).val < 0 + 128; omega

theorem own_disjoint : ∀ p ∈ (Finset.univ : Finset (Fin 2 × Fin 16)), ∀ p' ∈ (Finset.univ : Finset (Fin 2 × Fin 16)), p ≠ p' →
    Disjoint (ownSet p) (ownSet p') := by
  intro p _ p' _ h
  refine Finset.disjoint_left.mpr fun x hx hx' => h ?_
  rw [mem_ownSet] at hx hx'
  have h1 := p.1.isLt
  have h2 := p'.1.isLt
  exact Prod.ext (Fin.ext (by omega)) (Fin.ext (by omega))

theorem own_cover : (Finset.univ : Finset (Fin 2 × Fin 16)).biUnion ownSet = Finset.univ := by
  refine Finset.eq_univ_iff_forall.mpr fun x => ?_
  have h0 : (x 0).val < 196608 := (x 0).isLt
  refine Finset.mem_biUnion.mpr ⟨(⟨(x 0).val / 6144 % 2, by omega⟩, ⟨(x 0).val / 6144 / 2, by omega⟩), Finset.mem_univ _, ?_⟩
  rw [mem_ownSet]
  show (x 0).val / 6144 = (x 0).val / 6144 / 2 * 2 + (x 0).val / 6144 % 2
  omega

theorem out_disjoint : ∀ p ∈ (Finset.univ : Finset ((Fin 2 × Fin 16) × Fin 49)), ∀ p' ∈ (Finset.univ : Finset ((Fin 2 × Fin 16) × Fin 49)),
    p ≠ p' → Disjoint (outSet p) (outSet p') := by
  intro p _ p' _ h
  refine Finset.disjoint_left.mpr fun x hx hx' => h ?_
  rw [mem_outSet] at hx hx'
  have h1 := p.1.1.isLt
  have h2 := p'.1.1.isLt
  exact Prod.ext (Prod.ext (Fin.ext (by omega)) (Fin.ext (by omega))) (Fin.ext (by omega))

set_option maxRecDepth 16384 in
theorem out_cover : (Finset.univ : Finset ((Fin 2 × Fin 16) × Fin 49)).biUnion outSet = Finset.univ := by
  refine Finset.eq_univ_iff_forall.mpr fun x => ?_
  have h0 : (x 0).val < 150528 := (x 0).isLt
  refine Finset.mem_biUnion.mpr ⟨((⟨(x 0).val / 4704 % 2, by omega⟩, ⟨(x 0).val / 4704 / 2, by omega⟩), ⟨(x 0).val % 4704 / 96, by omega⟩),
    Finset.mem_univ _, ?_⟩
  rw [mem_outSet]
  show (x 0).val / 4704 = (x 0).val / 4704 / 2 * 2 + (x 0).val / 4704 % 2 ∧ (x 0).val % 4704 / 96 = (x 0).val % 4704 / 96
  omega

/-! ## What a tile takes and brings back -/

abbrev share (c : Fin 2) (j : Fin 16) : PosShare TreeShare := Transfers.shareTok fullShare (2 * 16) (finProdFinEquiv (c, j))

/-- The tile's stretch of the list, its share of the table and its rows of the result, these at `f`. -/
def part (d : Dev nD) (L : Buf (Elt F) (lLoc d)) (tab : Buf (Elt F) (tLoc d)) (f : Buf (Elt F) (rLoc d)) (c : Fin 2) (j : Fin 16) : sProp 𝕄 :=
  iprop((lLoc d ↦[ownSet (c, j)]{fullShare} L) ∗ (tLoc d ↦{share c j} tab)
    ∗ bigSep Finset.univ fun k : Fin 49 => rLoc d ↦[outSet ((c, j), k)]{fullShare} f)

/-- What no tile takes of the table. -/
def tabKept (d : Dev nD) (tab : Buf (Elt F) (tLoc d)) : sProp 𝕄 := tLoc d ↦{Transfers.shareDrop fullShare (2 * 16)} tab

instance part_storable (d : Dev nD) (L : Buf (Elt F) (lLoc d)) (tab : Buf (Elt F) (tLoc d)) (f : Buf (Elt F) (rLoc d)) (c : Fin 2) (j : Fin 16) :
    BI.Storable (upEmb : UEmb _ 𝕄) (part d L tab f c j) := by
  unfold part; infer_instance

/-- The three buffers whole are the tiles' parts and the table's rest. -/
theorem parts (d : Dev nD) (L : Buf (Elt F) (lLoc d)) (tab : Buf (Elt F) (tLoc d)) (f : Buf (Elt F) (rLoc d)) :
    (iprop((lLoc d ↦{fullShare} L) ∗ (tLoc d ↦{fullShare} tab) ∗ (rLoc d ↦{fullShare} f)) : sProp 𝕄)
      ⊣⊢ iprop(tabKept d tab ∗ bigSep Finset.univ fun c : Fin 2 => bigSep Finset.univ fun j : Fin 16 => part d L tab f c j) := by
  have hl : (lLoc d ↦{fullShare} L : sProp 𝕄)
      = bigSep Finset.univ fun c : Fin 2 => bigSep Finset.univ fun j : Fin 16 => lLoc d ↦[ownSet (c, j)]{fullShare} L := by
    rw [← bigSep_univ_prod (fun p : Fin 2 × Fin 16 => (lLoc d ↦[ownSet p]{fullShare} L : sProp 𝕄)),
      ← pointsTo_biUnion Finset.univ (ℓ := lLoc d) ownSet own_disjoint, own_cover]
  have hr : (rLoc d ↦{fullShare} f : sProp 𝕄)
      = bigSep Finset.univ fun c : Fin 2 => bigSep Finset.univ fun j : Fin 16 => bigSep Finset.univ fun k : Fin 49 =>
          rLoc d ↦[outSet ((c, j), k)]{fullShare} f := by
    rw [← bigSep_univ_prod (fun p : Fin 2 × Fin 16 => bigSep Finset.univ fun k : Fin 49 => (rLoc d ↦[outSet (p, k)]{fullShare} f : sProp 𝕄)),
      ← bigSep_univ_prod (fun p : (Fin 2 × Fin 16) × Fin 49 => (rLoc d ↦[outSet p]{fullShare} f : sProp 𝕄)),
      ← pointsTo_biUnion Finset.univ (ℓ := rLoc d) outSet out_disjoint, out_cover]
  have ht : (tLoc d ↦{fullShare} tab : sProp 𝕄)
      ⊣⊢ iprop(tabKept d tab ∗ bigSep Finset.univ fun c : Fin 2 => bigSep Finset.univ fun j : Fin 16 => tLoc d ↦{share c j} tab) := by
    rw [← bigSep_univ_prod (fun p : Fin 2 × Fin 16 => (tLoc d ↦{share p.1 p.2} tab : sProp 𝕄)),
      ← bigSep_univ_equiv finProdFinEquiv (fun k : Fin (2 * 16) => (tLoc d ↦{Transfers.shareTok fullShare (2 * 16) k} tab : sProp 𝕄))]
    exact Transfers.pointsTo_toks (Val := Elt F) (Name := ℕ) (U := UU) (Ix := HIx 1) (Lvl := ℕ) (ℓ := tLoc d) (S := Finset.univ) (f := tab) fullShare (2 * 16)
  have hp : (bigSep Finset.univ fun c : Fin 2 => bigSep Finset.univ fun j : Fin 16 => part d L tab f c j)
      = iprop((bigSep Finset.univ fun c : Fin 2 => bigSep Finset.univ fun j : Fin 16 => lLoc d ↦[ownSet (c, j)]{fullShare} L)
        ∗ (bigSep Finset.univ fun c : Fin 2 => bigSep Finset.univ fun j : Fin 16 => tLoc d ↦{share c j} tab)
        ∗ (bigSep Finset.univ fun c : Fin 2 => bigSep Finset.univ fun j : Fin 16 => bigSep Finset.univ fun k : Fin 49 =>
          rLoc d ↦[outSet ((c, j), k)]{fullShare} f) : sProp 𝕄) := by
    unfold part
    simp only [bigSep_sep']
  rw [hp, hl, hr]
  constructor
  · iintro ⟨Hl, Ht, Hr⟩
    ihave Ht := ht.1 $$ Ht
    icases Ht with ⟨Hk, Ht⟩
    isplitl [Hk]; · iexact Hk
    isplitl [Hl]; · iexact Hl
    isplitl [Ht]; · iexact Ht
    iexact Hr
  · iintro ⟨Hk, Hl, Ht, Hr⟩
    isplitl [Hl]; · iexact Hl
    isplitl [Hk Ht]
    · iapply ht.2
      isplitl [Hk] <;> iassumption
    iexact Hr

/-! ## The handshakes -/

variable [FloatOps F]
variable (m : (ℓ : Loc nD τ sig) → Buf (Elt F) ℓ) (ρ : Dev nD → PrngReg)

/-- The buffers when the kernel is called. -/
abbrev atCall (d : Dev nD) : Valuation τ sig (Elt F) := StableHlo.after opsIn fun b => m (d, b)

def list (d : Dev nD) : S196608.Idx → BitVec 32 := atCall m d (Proc.devRef .tc main_v17)
def table (d : Dev nD) : S37632x2x128.Idx → Elt F .f32 := atCall m d (Proc.devRef .tc main_v0)
def before (d : Dev nD) : S150528x2x128.Idx → Elt F .f32 := m (rLoc d)

abbrev tileIn (d : Dev nD) (c : Fin 2) (j : Fin 16) : sProp 𝕄 := part d (list m d) (table m d) (before m d) c j
abbrev tileOut (d : Dev nD) (c : Fin 2) (j : Fin 16) : sProp 𝕄 := part d (list m d) (table m d) (res (table m d) (list m d)) c j

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => bigSep Finset.univ fun j : Fin 16 => tileIn m d (Fin.cast nCore_zero c) j
  dn := fun q d c => match q with | 0 => bigSep Finset.univ fun j : Fin 16 => tileOut m d (Fin.cast nCore_zero c) j
  go := fun q d c j => match q with | 0 => tileIn m d (Fin.cast nCore_zero c) (Fin.cast nSub_zero j)
  td := fun q d c j => match q with | 0 => tileOut m d (Fin.cast nCore_zero c) (Fin.cast nSub_zero j)
  x := fun _ _ => iprop(emp)

instance P_storable : (P (F := F) m).IsStorable where
  st q d c := match q with
    | 0 => (inferInstance : BI.Storable (upEmb : UEmb _ 𝕄) (bigSep Finset.univ fun j : Fin 16 => tileIn m d (Fin.cast nCore_zero c) j))
  dn q d c := match q with
    | 0 => (inferInstance : BI.Storable (upEmb : UEmb _ 𝕄) (bigSep Finset.univ fun j : Fin 16 => tileOut m d (Fin.cast nCore_zero c) j))
  go q d c j := match q with
    | 0 => (inferInstance : BI.Storable (upEmb : UEmb _ 𝕄) (tileIn m d (Fin.cast nCore_zero c) (Fin.cast nSub_zero j)))
  td q d c j := match q with
    | 0 => (inferInstance : BI.Storable (upEmb : UEmb _ 𝕄) (tileOut m d (Fin.cast nCore_zero c) (Fin.cast nSub_zero j)))

/-! ## The tile's obligation -/

/-- Every entry of every device's list is a row of the table. -/
def PreOK : Prop := ∀ d, InRange (list m d)

theorem defs₀_vector (c : Fin τ.nSC) (s : Fin τ.nSub) :
    defs₀ (F := F) (.scVector c s) 0 ()
      = SparseCore.onTile Facts₀.hcore0 Facts₀.hsub0 (fun c s => cc0_sc_gather (at' c s) listV (Memref.isWhole_whole _) tableV (Memref.isWhole_whole _)
          resV (Memref.isWhole_whole _) scrV (Memref.isWhole_whole _) rowsV (Memref.isWhole_whole _) cc0_scratch2 cc0_scratch3 cc0_scratch4 cc0_scratch5
          cc0_scratch6 cc0_scratch7 cc0_scratch8 cc0_scratch9 cc0_scoped0) ⟨⟩ c s := rfl

omit [FloatOps F] in
theorem obl_post {thr : Thread nD τ} {A A' B C : sProp 𝕄} {O : CellTallies nD τ sig (HIx 1)} {W : Waits sig (HIx 1)} {q : Fin 1} (h : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply h; iexact HA
  isplitl [HB]; · iexact HB
  isplitl [HC]; · iexact HC
  iexists W'; isplitr
  · ipureintro; exact fun p hp => (hW' p hp).imp_right Or.inl
  · iexact HO

theorem tile_out (d : Dev nD) (c : Fin 2) (j : Fin 16) (tab : S37632x2x128.Idx → Elt F .f32) (L : S196608.Idx → BitVec 32)
    (old : S150528x2x128.Idx → Elt F .f32) (h : InRange L) :
    (taskOut (env (d := d) (at' c j) (share c j) tab L old h) L : sProp 𝕄) ⊢ part d L tab (res tab L) c j := by
  have hl : (listPart d (at' c j) L : sProp 𝕄) = (lLoc d ↦[ownSet (c, j)]{fullShare} L) := rfl
  have ht : (tabShare (env (d := d) (at' c j) (share c j) tab L old h) : sProp 𝕄) = (tLoc d ↦{share c j} tab) := rfl
  have hr : (bigSep Finset.univ fun k : Fin 49 => outPart k (landed (env (d := d) (at' c j) (share c j) tab L old h) k) : sProp 𝕄)
      = bigSep Finset.univ fun k : Fin 49 => rLoc d ↦[outSet ((c, j), k)]{fullShare} res tab L :=
    bigSep_congr fun k _ => pointsTo_congr fun x hx => landed_eq (share c j) tab L old h k x hx
  unfold taskOut part
  exact Entails.of_eq (congrArg₂ (fun A B : sProp 𝕄 => iprop(A ∗ B)) hl (congrArg₂ (fun A B : sProp 𝕄 => iprop(A ∗ B)) ht hr))

theorem tile_at [∀ e, Nonempty (Elt F e)] (hF : (K (F := F)).Facts) (d : Dev nD) (c : Fin 2) (j : Fin 16) (tab : S37632x2x128.Idx → Elt F .f32)
    (L : S196608.Idx → BitVec 32) (old : S150528x2x128.Idx → Elt F .f32) (h : InRange L)
    (O : CellTallies nD τ sig (HIx 1)) (W : Waits sig (HIx 1)) (hO : ∀ g, O g none = 0) :
    iprop(levAts (K (F := F)).L (K (F := F)).lev ∗ emp ∗ part d L tab old c j
        ∗ scopedBufs (th d (at' c j)) ∗ scopedSems0 (th d (at' c j)) ∗ owes (th d (at' c j)) O W)
      ⊢ wp frame (wpE (defs₀ (F := F)) 𝒱₀ (th d (at' c j)) none) Set.univ
          (cc0_sc_gather (F := F) (at' c j) listV (Memref.isWhole_whole _) tableV (Memref.isWhole_whole _) resV (Memref.isWhole_whole _)
            scrV (Memref.isWhole_whole _) rowsV (Memref.isWhole_whole _) cc0_scratch2 cc0_scratch3 cc0_scratch4 cc0_scratch5
            cc0_scratch6 cc0_scratch7 cc0_scratch8 cc0_scratch9 cc0_scoped0)
          fun _ => iprop(part d L tab (res tab L) c j ∗ scopedBufs (th d (at' c j)) ∗ scopedSems0 (th d (at' c j))
            ∗ ∃ W', ⌜∀ p ∈ W', p ∈ W ∨ p.2 = none ∨ p.2 = some (0 : Fin 1)⌝ ∗ owes (th d (at' c j)) O W') :=
  (tile_body (env (at' c j) (share c j) tab L old h) hF L rfl O W hO).trans
    (wp_mono frame _ _ fun _ => obl_post (tile_out d c j tab L old h))

set_option maxRecDepth 16384 in
theorem tileObl [∀ e, Nonempty (Elt F e)] (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_at hF d (Fin.cast nCore_zero c) (Fin.cast nSub_zero i) (table m d) (list m d) (before m d) (hpre d) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun j : Fin 16 => tileIn m d (Fin.cast nCore_zero c) j) ⊢ |={Set.univ}=> iprop(
      (bigSep Finset.univ fun i : Fin ((K (F := F)).nSub 0) => tileIn m d (Fin.cast nCore_zero c) (Fin.cast nSub_zero i))
      ∗ ((bigSep Finset.univ fun i : Fin ((K (F := F)).nSub 0) => tileOut m d (Fin.cast nCore_zero c) (Fin.cast nSub_zero i))
          -∗ bigSep Finset.univ fun j : Fin 16 => tileOut m d (Fin.cast nCore_zero c) j))
  rw [bigSep_tasks (F := F) (fun j => tileIn m d (Fin.cast nCore_zero c) j), bigSep_tasks (F := F) (fun j => tileOut m d (Fin.cast nCore_zero c) j)]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- The buffers after the call, -/
def afterCall (d : Dev nD) : Valuation τ sig (Elt F) := Function.update (atCall m d) (Proc.devRef .tc main_v18) (res (table m d) (list m d))
/-- and at the end. -/
abbrev atEnd (d : Dev nD) : Valuation τ sig (Elt F) := StableHlo.after opsOut (afterCall m d)

abbrev three : Finset (DevRef τ sig) := {Proc.devRef .tc main_v17, Proc.devRef .tc main_v0, Proc.devRef .tc main_v18}
abbrev ends : Finset (DevRef τ sig) := {Proc.devRef .tc main_arg0, Proc.devRef .tc main_arg1, Proc.devRef .tc main_v19}

theorem devRef_ne {a b : Ref sig .tc} (h : a ≠ b) : (Proc.devRef (τ := τ) .tc a) ≠ Proc.devRef .tc b := fun e => h (Proc.devRef_injective _ e)

theorem mem_uc {b : Ref sig .tc} (h : b.isScoped = false) : (Proc.devRef (τ := τ) .tc b) ∈ Pipeline.ucRefs τ sig := by
  refine Finset.mem_filter.mpr ⟨Finset.mem_map.mpr ⟨b, Finset.mem_univ _, rfl⟩, ?_⟩
  intro h'
  exact Bool.false_ne_true (h.symm.trans h')

theorem three_sub : three ⊆ Pipeline.ucRefs τ sig := by
  intro b hb
  simp only [three, Finset.mem_insert, Finset.mem_singleton] at hb
  rcases hb with rfl | rfl | rfl <;> exact mem_uc rfl
theorem ends_sub : ends ⊆ Pipeline.ucRefs τ sig := by
  intro b hb
  simp only [ends, Finset.mem_insert, Finset.mem_singleton] at hb
  rcases hb with rfl | rfl | rfl <;> exact mem_uc rfl

theorem held_three (d : Dev nD) (W : Valuation τ sig (Elt F)) :
    (StableHlo.held (d.tc : Thread nD τ) three W : sProp 𝕄)
      = iprop((lLoc d ↦{fullShare} W (Proc.devRef .tc main_v17)) ∗ (tLoc d ↦{fullShare} W (Proc.devRef .tc main_v0))
        ∗ (rLoc d ↦{fullShare} W (Proc.devRef .tc main_v18))) := by
  unfold StableHlo.held three
  rw [SparseCore.bigSep_insert' (by
      simp only [Finset.mem_insert, Finset.mem_singleton, not_or]; exact ⟨devRef_ne (by decide), devRef_ne (by decide)⟩),
    SparseCore.bigSep_insert' (by simp only [Finset.mem_singleton]; exact devRef_ne (by decide)), bigSep_singleton]

abbrev aLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v19

theorem held_ends (d : Dev nD) (W : Valuation τ sig (Elt F)) :
    (StableHlo.held (d.tc : Thread nD τ) ends W : sProp 𝕄)
      = iprop((aLoc d ↦{fullShare} W (Proc.devRef .tc main_arg0)) ∗ (bLoc d ↦{fullShare} W (Proc.devRef .tc main_arg1))
        ∗ (oLoc d ↦{fullShare} W (Proc.devRef .tc main_v19))) := by
  unfold StableHlo.held ends
  rw [SparseCore.bigSep_insert' (by
      simp only [Finset.mem_insert, Finset.mem_singleton, not_or]; exact ⟨devRef_ne (by decide), devRef_ne (by decide)⟩),
    SparseCore.bigSep_insert' (by simp only [Finset.mem_singleton]; exact devRef_ne (by decide)), bigSep_singleton]

theorem end_arg {r : Ref sig .tc} (hr : r = main_arg0 ∨ r = main_arg1) (d : Dev nD) :
    atEnd m d (Proc.devRef .tc r) = m (d, Proc.devRef .tc r) := by
  have h1 : atEnd m d (Proc.devRef .tc r) = afterCall m d (Proc.devRef .tc r) := by
    refine StableHlo.after_of_writes_sub opsOut _ (StableHlo.forall_writes_sub_of_map (W := [main_v19]) rfl) ?_
    rcases hr with rfl | rfl <;> decide
  rw [h1, afterCall, Function.update_of_ne (devRef_ne (by rcases hr with rfl | rfl <;> decide))]
  exact in_keeps _ (hr.imp_right Or.inl)

theorem call_rest (d : Dev nD) :
    (StableHlo.held (d.tc : Thread nD τ) (Pipeline.ucRefs τ sig \ three) (atCall m d) : sProp 𝕄)
      = StableHlo.held (d.tc : Thread nD τ) (Pipeline.ucRefs τ sig \ three) (afterCall m d) := by
  refine StableHlo.held_congr _ fun b hb => ?_
  rw [afterCall, Function.update_of_ne]
  rintro rfl
  exact (Finset.mem_sdiff.mp hb).2 (by simp only [three, Finset.mem_insert, Finset.mem_singleton, or_true])

/-- What the end holds: the arguments as they were and the result. -/
abbrev FIN (d : Dev nD) : sProp 𝕄 :=
  iprop((aLoc d ↦{fullShare} m (aLoc d)) ∗ (bLoc d ↦{fullShare} m (bLoc d)) ∗ (oLoc d ↦{fullShare} atEnd m d (Proc.devRef .tc main_v19)))

theorem st0_eq (d : Dev nD) : (bigSep Finset.univ fun c : Fin ((K (F := F)).nCore 0) => (P m).st 0 d c)
    = bigSep Finset.univ fun c : Fin 2 => bigSep Finset.univ fun j : Fin 16 => tileIn m d c j :=
  bigSep_cores (F := F) fun c => bigSep Finset.univ fun j : Fin 16 => tileIn m d c j
theorem dn0_eq (d : Dev nD) : (bigSep Finset.univ fun c : Fin ((K (F := F)).nCore 0) => (P m).dn 0 d c)
    = bigSep Finset.univ fun c : Fin 2 => bigSep Finset.univ fun j : Fin 16 => tileOut m d c j :=
  bigSep_cores (F := F) fun c => bigSep Finset.univ fun j : Fin 16 => tileOut m d c j

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((d.tc : Thread nD τ).loc b)) : sProp 𝕄)
    = StableHlo.held (d.tc : Thread nD τ) (Pipeline.ucRefs τ sig) (fun b => m (d, b)) from
      Pipeline.unscopedBufs_held d (fun b => m (d, b))]
  iintro ⟨#Hctx, Hst, ⟨Hb, Hu, Hts, -⟩, -⟩
  iapply (StableHlo.wp_seq 𝒱 none Set.univ d (Pipeline.ucRefs τ sig) _ (opsIn (F := F))
    (fun op h => Pipeline.sub_ucRefs op ((List.forall_iff_forall_mem.mp in_sub) op h))
    (fun op h => (List.forall_iff_forall_mem.mp in_fresh) op h) (fun b => m (d, b))) $$ [Hb Hu]
  · isplitl [Hb] <;> iassumption
  iintro ⟨Hb, Hu⟩
  ihave Hu := (Entails.of_eq ((StableHlo.held_sub_split (d.tc : Thread nD τ) three_sub (atCall m d)).trans
    (congrArg₂ (fun A B : sProp 𝕄 => iprop(A ∗ B)) (held_three d (atCall m d)) (call_rest m d)))) $$ Hu
  icases Hu with ⟨H3, Hrest⟩
  ihave H3 := (show iprop((lLoc d ↦{fullShare} atCall m d (Proc.devRef .tc main_v17)) ∗ (tLoc d ↦{fullShare} atCall m d (Proc.devRef .tc main_v0))
        ∗ (rLoc d ↦{fullShare} atCall m d (Proc.devRef .tc main_v18))) ⊢ _ from
    (Entails.of_eq (by rw [show atCall m d (Proc.devRef .tc main_v18) = before m d from in_keeps _ (Or.inr (Or.inr rfl))]; rfl)).trans
      (parts d (list m d) (table m d) (before m d)).1) $$ H3
  icases H3 with ⟨Hk, Hp⟩
  rw [wp_bind]
  iapply ((K (F := F)).wp_run (D (F := F)) 𝒱 (EH := EH) (P := P m) κ d 0) $$ [Hst Hp Hk Hrest Hb Hts]
  isplitr; · iexact Hctx
  isplitl [Hst]; · iexact Hst
  isplitl [Hp]
  · rw [st0_eq]; iexact Hp
  iintro ⟨Hst, Hdn⟩
  ihave Hdn := (Entails.of_eq (dn0_eq m d)) $$ Hdn
  ihave H3 := (parts d (list m d) (table m d) (res (table m d) (list m d))).2 $$ [Hk Hdn]
  · isplitl [Hk] <;> iassumption
  ihave Hu := (Entails.of_eq (show iprop(iprop((lLoc d ↦{fullShare} list m d) ∗ (tLoc d ↦{fullShare} table m d) ∗ (rLoc d ↦{fullShare} res (table m d) (list m d)))
        ∗ StableHlo.held (d.tc : Thread nD τ) (Pipeline.ucRefs τ sig \ three) (afterCall m d))
      = (StableHlo.held (d.tc : Thread nD τ) (Pipeline.ucRefs τ sig) (afterCall m d) : sProp 𝕄) from by
    rw [StableHlo.held_sub_split (d.tc : Thread nD τ) three_sub (afterCall m d), held_three, afterCall, Function.update_self,
      Function.update_of_ne (devRef_ne (by decide)), Function.update_of_ne (devRef_ne (by decide))]; rfl)) $$ [H3 Hrest]
  · isplitl [H3] <;> iassumption
  rw [← bind_pure (StableHlo.seq opsOut)]
  iapply (StableHlo.wp_seq 𝒱 none Set.univ d (Pipeline.ucRefs τ sig) _ (opsOut (F := F))
    (fun op h => Pipeline.sub_ucRefs op ((List.forall_iff_forall_mem.mp out_sub) op h))
    (fun op h => (List.forall_iff_forall_mem.mp out_fresh) op h) (afterCall m d)) $$ [Hb Hu]
  · isplitl [Hb] <;> iassumption
  iintro ⟨Hb, Hu⟩
  ihave Hu := (Entails.of_eq ((StableHlo.held_sub_split (d.tc : Thread nD τ) ends_sub (atEnd m d)).trans
    (congrArg (fun A : sProp 𝕄 => iprop(A ∗ _)) (held_ends d (atEnd m d))))) $$ Hu
  icases Hu with ⟨⟨Ha, Hbb, Ho⟩, -⟩
  rw [wp_pure]
  imodintro
  rw [end_arg m (Or.inl rfl) d, end_arg m (Or.inr rfl) d]
  isplitl [Hst]; · iexact Hst
  isplitr [Hb Hts]
  · isplitl [Ha]; · iexact Ha
    isplitl [Hbb]; · iexact Hbb
    iexact Ho
  isplitl [Hb] <;> iassumption

def fq (d : Dev nD) (s' : Phys nD τ sig (Elt F)) : Prop :=
  s'.mem.mem (aLoc d) = m (aLoc d) ∧ s'.mem.mem (bLoc d) = m (bLoc d) ∧ s'.mem.mem (oLoc d) = atEnd m d (Proc.devRef .tc main_v19)

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := atEnd m d (Proc.devRef .tc main_v19))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The run -/

def QC : PUnit × MemSt nD τ sig (Elt F) → Prop := fun r =>
  (∀ d : Dev nD, r.2.mem (aLoc d) = m (aLoc d) ∧ r.2.mem (bLoc d) = m (bLoc d) ∧ r.2.mem (oLoc d) = atEnd m d (Proc.devRef .tc main_v19))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Words.lean ====
/-
  The words of the index list: the rounded-down quotient, and the row of the table that a list position names.
-/
module

public import proofs.«01_k».proof.Proof.Rows

@[expose] public section

namespace Cert.Proof.Words

open Cert.KernelIdeal Cert.KernelIdeal.Gen
open Idealize.ShloMosaic

/-! ## The index list -/

/-- The sign of a word. -/
def sgn (n : BitVec 32) : BitVec 32 := if n = 0 then 0 else if n.msb = true then -1 else 1

/-- The quotient by `k` rounded down, as the program computes it: the quotient rounded to zero, less 1 where the signs
    differ and the remainder is not 0. -/
def quot (n k : BitVec 32) : BitVec 32 :=
  Scalar.select (IntOp.andi (IntOp.cmpi .ne (sgn n) (sgn k)) (IntOp.cmpi .ne (IntOp.remsi .host n k) 0#32))
    (IntOp.subi (IntOp.divsi .host n k) 1#32)
    (IntOp.divsi .host n k)

theorem quot_eq : ∀ n : Fin 1568, quot (BitVec.ofNat 32 n.val) 196#32 = BitVec.ofNat 32 (n.val / 196) := by
  decide +kernel

/-- The row number of the table for list position `n` (flat over batch, region and choice) and the row's part `j`. -/
def row (a : S8x49x4.Idx → BitVec 32) (n : Fin 1568) (j : ℕ) : BitVec 32 :=
  (a (ix3 ⟨n.val / 196, by have := n.isLt; omega⟩ ⟨n.val / 4 % 49, Nat.mod_lt _ (by decide)⟩ ⟨n.val % 4, Nat.mod_lt _ (by decide)⟩)
    + BitVec.ofNat 32 (n.val / 196) * 49#32) * 96#32 + BitVec.ofNat 32 j

/-- Every entry of the argument is a region. -/
def Routed (a : S8x49x4.Idx → BitVec 32) : Prop := ∀ x, (a x).toNat < 49

theorem row_toNat {a : S8x49x4.Idx → BitVec 32} (ha : Routed a) (n : Fin 1568) (j : ℕ) (hj : j < 96) :
    (row a n j).toNat = ((a (ix3 ⟨n.val / 196, by have := n.isLt; omega⟩ ⟨n.val / 4 % 49, Nat.mod_lt _ (by decide)⟩ ⟨n.val % 4, Nat.mod_lt _ (by decide)⟩)).toNat
      + n.val / 196 * 49) * 96 + j := by
  have hn := n.isLt
  have h := ha (ix3 ⟨n.val / 196, by omega⟩ ⟨n.val / 4 % 49, Nat.mod_lt _ (by decide)⟩ ⟨n.val % 4, Nat.mod_lt _ (by decide)⟩)
  unfold row
  generalize a _ = r at h
  have hb : n.val / 196 < 8 := by omega
  generalize n.val / 196 = b at hb
  simp only [BitVec.toNat_add, BitVec.toNat_mul, BitVec.toNat_ofNat]
  omega

end Cert.Proof.Words

end
-- ==== Proof.ListAt.lean ====
/-
  The index list, entry by entry, and the result that the program ends with: at `(b, i, t, w, c)` the element of the
  table's batch `b`, region `r_idx[b, i, t]`, at `(w, c)`.
-/
module

public import proofs.«01_k».proof.Proof.Words
public import proofs.«01_k».proof.Proof.Host

@[expose] public section

noncomputable section

namespace Cert.Proof.ListAt

open Cert.KernelIdeal Cert.KernelIdeal.Gen Cert.Proof.Host Cert.Proof.Words

open Idealize.ShloMosaic
open Idealize.SL.Sem

variable {F : FTy → Type} [FloatOps F]

/-- The entry of the list at a position: in each worker's run of 6144 the first 4704 name rows, and the rest are 0. -/
def entry (a : S8x49x4.Idx → BitVec 32) (x : S196608.Idx) : BitVec 32 :=
  if h : (x 0).val % 6144 < 4704 then
    row a ⟨(x 0).val / 6144 * 49 + (x 0).val % 6144 / 96, by
      have : (x 0).val < 196608 := (x 0).isLt
      omega⟩ ((x 0).val % 6144 % 96)
  else 0#32

/-- The word of the list, spelt with the program's operations. -/
theorem row_words (a : S8x49x4.Idx → BitVec 32) (n : ℕ) (hn : n < 1568) (i j k : ℕ) (hi : i < 8) (hj : j < 49) (hk : k < 4)
    (ei : n / 196 = i) (ej : n / 4 % 49 = j) (ek : n % 4 = k) (q : BitVec 32) (hq : q = 196#32) (p : ℕ) :
    IntOp.addi (IntOp.muli (IntOp.addi (a (ix3 ⟨i, hi⟩ ⟨j, hj⟩ ⟨k, hk⟩)) (IntOp.muli (quot (BitVec.ofNat 32 n) q) 49#32)) 96#32) (BitVec.ofNat 32 p)
      = row a ⟨n, hn⟩ p := by
  subst hq ei ej ek
  have h := quot_eq ⟨n, hn⟩
  dsimp only at h
  unfold row IntOp.addi IntOp.muli
  simp only [h]

theorem entry_lt (a : S8x49x4.Idx → BitVec 32) (x : S196608.Idx) (h : (x 0).val % 6144 < 4704)
    (hn : (x 0).val / 6144 * 49 + (x 0).val % 6144 / 96 < 1568) :
    entry a x = row a ⟨(x 0).val / 6144 * 49 + (x 0).val % 6144 / 96, hn⟩ ((x 0).val % 6144 % 96) := dif_pos h

theorem list_read (V : Valuation τ sig (Elt F)) (x : S196608.Idx) (R : BitVec 32) (hR : entry (V (Proc.devRef .tc main_arg0)) x = R) :
    (StableHlo.after opsIn V (Proc.devRef .tc main_v17) : S196608.Idx → BitVec 32) x = R := by
  have h0 : (x 0).val < 196608 := (x 0).isLt
  unfold opsIn opsPre opsDiv opsPost
  simp only [List.cons_append, List.nil_append]
  after_reads_at
  by_cases h : (x 0).val % 6144 < 4704
  · have hb : (x 0).val / 6144 < 32 := by omega
    have hn : (x 0).val / 6144 * 49 + (x 0).val % 6144 / 96 < 1568 := by omega
    refine (dif_pos (And.intro hb h)).trans ?_
    refine Eq.trans ?_ ((entry_lt _ x h hn).symm.trans hR)
    exact row_words (V (Proc.devRef .tc main_arg0)) _ hn _ _ _ _ _ _ rfl rfl rfl (id (constantI S_ 32 196#32) ix0) rfl _
  · have hb : ¬((x 0).val / 6144 < 32 ∧ (x 0).val % 6144 < 4704) := fun h' => h h'.2
    refine (dif_neg hb).trans ?_
    refine Eq.trans ?_ ((dif_neg h : entry (V (Proc.devRef .tc main_arg0)) x = 0#32).symm.trans hR)
    rfl

end Cert.Proof.ListAt

end
-- ==== Proof.TableAt.lean ====
/-
  The two reshapes read at an index: the table before the launch, and the result after it.
-/
module

public import proofs.«01_k».proof.Proof.Host

@[expose] public section

noncomputable section

namespace Cert.Proof.TableAt

open Cert.KernelIdeal Cert.KernelIdeal.Gen Cert.Proof.Host

open Idealize.ShloMosaic
open Idealize.SL.Sem

variable {F : FTy → Type} [FloatOps F]

/-- The table at `x` is the argument at the element that stands where `x` does when both are read in order. -/
theorem table_read (V : Valuation τ sig (Elt F)) (x : S37632x2x128.Idx) (z : S8x49x64x384.Idx) (R : Elt F .f32)
    (e : (z 0).val * 1204224 + (z 1).val * 24576 + (z 2).val * 384 + (z 3).val = (x 0).val * 256 + (x 1).val * 128 + (x 2).val)
    (hR : V (Proc.devRef .tc main_arg1) z = R) :
    (StableHlo.after opsIn V (Proc.devRef .tc main_v0) : S37632x2x128.Idx → Elt F .f32) x = R := by
  unfold opsIn opsPre opsDiv opsPost
  simp only [List.cons_append, List.nil_append]
  after_reads_at
  refine (congrArg (V (Proc.devRef .tc main_arg1)) ?_).trans hR
  refine Shape.reshapeEquiv_eq_of_rowMajor _ ?_
  refine (rowMajor_val4 z 1204224 24576 384 rfl rfl rfl).trans (e.trans ?_)
  exact (rowMajor_val3 x 256 128 rfl rfl).symm

/-- The position of a result element when the result is read in order. -/
def pos (y : S8x49x4x64x384.Idx) : ℕ := (y 0).val * 4816896 + (y 1).val * 98304 + (y 2).val * 24576 + (y 3).val * 384 + (y 4).val

theorem pos_lt (y : S8x49x4x64x384.Idx) : pos y < 38535168 := by
  have h0 : (y 0).val < 8 := (y 0).isLt
  have h1 : (y 1).val < 49 := (y 1).isLt
  have h2 : (y 2).val < 4 := (y 2).isLt
  have h3 : (y 3).val < 64 := (y 3).isLt
  have h4 : (y 4).val < 384 := (y 4).isLt
  unfold pos
  omega

/-- The row, half and lane of the launch's result at that position. -/
def cell (y : S8x49x4x64x384.Idx) : S150528x2x128.Idx :=
  ix3 ⟨pos y / 256, by have := pos_lt y; omega⟩ ⟨pos y / 128 % 2, Nat.mod_lt _ (by decide)⟩ ⟨(y 4).val % 128, Nat.mod_lt _ (by decide)⟩

theorem end_read (V : Valuation τ sig (Elt F)) (y : S8x49x4x64x384.Idx) (R : Elt F .f32) (hR : V (Proc.devRef .tc main_v18) (cell y) = R) :
    (StableHlo.after opsOut V (Proc.devRef .tc main_v19) : S8x49x4x64x384.Idx → Elt F .f32) y = R := by
  unfold opsOut
  after_reads_at
  exact hR

end Cert.Proof.TableAt

end
-- ==== Proof.Value.lean ====
/-
  The kernel's result: at `(b, i, t, w, c)` the table's batch `b`, region `r_idx[b, i, t]`, at `(w, c)`; and the index
  list stays inside the table.
-/
module

public import proofs.«01_k».proof.Proof.Launch
public import proofs.«01_k».proof.Proof.ListAt
public import proofs.«01_k».proof.Proof.TableAt

@[expose] public section

noncomputable section

namespace Cert.Proof.Value

open Cert.KernelIdeal Cert.KernelIdeal.Gen Cert.Proof.Host Cert.Proof.Rows Cert.Proof.Launch
open Cert.Proof.Words Cert.Proof.ListAt Cert.Proof.TableAt

open Idealize.ShloMosaic
open Idealize.SL.Sem

variable {F : FTy → Type} [FloatOps F]

/-! ## The list stays inside the table -/

theorem entry_toNat {a : S8x49x4.Idx → BitVec 32} (ha : Routed a) (x : S196608.Idx) : (entry a x).toNat < 37632 := by
  have h0 : (x 0).val < 196608 := (x 0).isLt
  by_cases h : (x 0).val % 6144 < 4704
  · have hn : (x 0).val / 6144 * 49 + (x 0).val % 6144 / 96 < 1568 := by omega
    have hj : (x 0).val % 6144 % 96 < 96 := Nat.mod_lt _ (by decide)
    rw [entry_lt a x h hn, row_toNat ha _ _ hj]
    generalize (x 0).val % 6144 % 96 = j at hj
    generalize (x 0).val / 6144 * 49 + (x 0).val % 6144 / 96 = n at hn
    have hr := ha (ix3 ⟨n / 196, by omega⟩ ⟨n / 4 % 49, Nat.mod_lt _ (by decide)⟩ ⟨n % 4, Nat.mod_lt _ (by decide)⟩)
    dsimp only
    omega
  · rw [show entry a x = 0#32 from dif_neg h]
    decide

variable (m : (ℓ : Loc nD τ sig) → Buf (Elt F) ℓ)

theorem list_entry (d : Dev nD) (x : S196608.Idx) : list m d x = entry (m (aLoc d)) x :=
  list_read (fun b => m (d, b)) x _ rfl

theorem preOK (h : ∀ d, Routed (m (aLoc d))) : PreOK m := by
  intro d x
  rw [list_entry]
  exact entry_toNat (h d) x

/-! ## The result -/

theorem cell_row {a : S8x49x4.Idx → BitVec 32} (ha : Routed a) (y : S8x49x4x64x384.Idx) :
    (entry a (place (cell y 0))).toNat
      = ((a (ix3 (y 0) (y 1) (y 2))).toNat + (y 0).val * 49) * 96 + ((y 3).val * 384 + (y 4).val) / 256 := by
  have h0 : (y 0).val < 8 := (y 0).isLt
  have h1 : (y 1).val < 49 := (y 1).isLt
  have h2 : (y 2).val < 4 := (y 2).isLt
  have h3 : (y 3).val < 64 := (y 3).isLt
  have h4 : (y 4).val < 384 := (y 4).isLt
  have hx : (place (cell y 0) 0).val = pos y / 256 / 4704 * 6144 + pos y / 256 % 4704 := rfl
  have hk : ((y 3).val * 384 + (y 4).val) / 256 < 96 := by omega
  have hp : pos y / 256 = (((y 0).val * 49 + (y 1).val) * 4 + (y 2).val) * 96 + ((y 3).val * 384 + (y 4).val) / 256 := by
    unfold pos; omega
  have hm : ((y 0).val * 49 + (y 1).val) * 4 + (y 2).val < 1568 := by omega
  have e0 : (((y 0).val * 49 + (y 1).val) * 4 + (y 2).val) / 196 = (y 0).val := by omega
  have e1 : (((y 0).val * 49 + (y 1).val) * 4 + (y 2).val) / 4 % 49 = (y 1).val := by
    rw [show (((y 0).val * 49 + (y 1).val) * 4 + (y 2).val) / 4 = (y 0).val * 49 + (y 1).val by omega]
    omega
  have e2 : (((y 0).val * 49 + (y 1).val) * 4 + (y 2).val) % 4 = (y 2).val := by omega
  generalize ((y 3).val * 384 + (y 4).val) / 256 = k at hk hp ⊢
  generalize ((y 0).val * 49 + (y 1).val) * 4 + (y 2).val = n at hm hp e0 e1 e2
  have hlt : (place (cell y 0) 0).val % 6144 < 4704 := by rw [hx]; omega
  have hn : (place (cell y 0) 0).val / 6144 * 49 + (place (cell y 0) 0).val % 6144 / 96 = n := by rw [hx]; omega
  have hj : (place (cell y 0) 0).val % 6144 % 96 = k := by rw [hx]; omega
  have hn' : (place (cell y 0) 0).val / 6144 * 49 + (place (cell y 0) 0).val % 6144 / 96 < 1568 := by rw [hn]; exact hm
  rw [entry_lt a _ hlt hn']
  have hrow : row a ⟨_, hn'⟩ ((place (cell y 0) 0).val % 6144 % 96) = row a ⟨n, hm⟩ k :=
    congrArg₂ (row a) (Fin.ext hn) hj
  rw [hrow, row_toNat ha _ _ hk]
  have hi : (ix3 ⟨n / 196, by omega⟩ ⟨n / 4 % 49, Nat.mod_lt _ (by decide)⟩ ⟨n % 4, Nat.mod_lt _ (by decide)⟩ : S8x49x4.Idx)
      = ix3 (y 0) (y 1) (y 2) := by
    funext ax
    refine Fin.ext ?_
    match ax with
    | ⟨0, _⟩ => exact e0
    | ⟨1, _⟩ => exact e1
    | ⟨2, _⟩ => exact e2
  exact congrArg₂ (fun i b => ((a i).toNat + b * 49) * 96 + k) hi e0

/-- What the program ends with, element by element. -/
theorem end_at (d : Dev nD) (ha : Routed (m (aLoc d))) (y : S8x49x4x64x384.Idx) :
    (atEnd m d (Proc.devRef .tc main_v19) : S8x49x4x64x384.Idx → Elt F .f32) y
      = m (bLoc d) (ix4 (y 0) ⟨((m (aLoc d) : S8x49x4.Idx → BitVec 32) (ix3 (y 0) (y 1) (y 2))).toNat, ha _⟩ (y 3) (y 4)) := by
  have h0 : (y 0).val < 8 := (y 0).isLt
  have h3 : (y 3).val < 64 := (y 3).isLt
  have h4 : (y 4).val < 384 := (y 4).isLt
  have hr := ha (ix3 (y 0) (y 1) (y 2))
  refine end_read (afterCall m d) y _ ?_
  unfold afterCall
  rw [Function.update_self]
  refine table_read (fun b => m (d, b)) _
    (ix4 (y 0) ⟨((m (aLoc d) : S8x49x4.Idx → BitVec 32) (ix3 (y 0) (y 1) (y 2))).toNat, hr⟩ (y 3) (y 4)) _ ?_ rfl
  have hc := cell_row ha y
  rw [← list_entry] at hc
  show (y 0).val * 1204224 + ((m (aLoc d) : S8x49x4.Idx → BitVec 32) (ix3 (y 0) (y 1) (y 2))).toNat * 24576 + (y 3).val * 384 + (y 4).val
    = (list m d (place (cell y 0))).toNat % 37632 * 256 + pos y / 128 % 2 * 128 + (y 4).val % 128
  rw [hc]
  generalize ((m (aLoc d) : S8x49x4.Idx → BitVec 32) (ix3 (y 0) (y 1) (y 2))).toNat = r at hr
  unfold pos
  omega

end Cert.Proof.Value

end
-- ==== Proof.RefAt.lean ====
/-
  The reference's gather, read at an index.
-/
module

public import proofs.«01_k».proof.Proof.Gen.ReferenceIdeal.Run
public import Idealize.ShloMosaic.Lib.PointwiseCore

@[expose] public section

namespace Cert.Proof.RefAt

open Cert.ReferenceIdeal Cert.ReferenceIdeal.Gen
open Idealize.ShloMosaic

variable {α : Type}

/-- The reference's gather reads the operand at the pair of start indices, each read signed and clamped. -/
theorem gather_at (q : S8x49x64x384.Idx → α) (idx : IVec S8x49x4x2 32) (y : S8x49x4x64x384.Idx) :
    Host.gather gather_S8x49x64x384_S8x49x4x2_S8x49x4x64x384_34_01_n_n_01_3_1164384 q idx y
      = q (ix4 ⟨min (idx (ix4 (y 0) (y 1) (y 2) 0)).toInt.toNat 7, by omega⟩
          ⟨min (idx (ix4 (y 0) (y 1) (y 2) 1)).toInt.toNat 48, by omega⟩ (y 3) (y 4)) := by
  unfold Host.gather
  congr 1
  funext a
  refine Fin.ext ?_
  generalize hd : gather_S8x49x64x384_S8x49x4x2_S8x49x4x64x384_34_01_n_n_01_3_1164384 = d
  show d.start y idx a + d.batchCoord y a + d.offCoord y a = _
  have hb : d.batchCoord y a = 0 := GatherDims.batchCoord_eq_zero _ _ _ (by subst hd; exact List.not_mem_nil)
  rw [hb, Nat.add_zero]
  match a with
  | ⟨0, _⟩ =>
    rw [GatherDims.offCoord_eq_zero _ _ _ (fun h => ((GatherDims.mem_sKept _ _).mp h).1 (by subst hd; exact List.mem_cons_self ..))]
    unfold GatherDims.start
    have hm : (0 : Fin 4) ∈ d.startIndexMap := by subst hd; exact List.mem_cons_self ..
    refine (congrArg (· + 0) (dif_pos hm)).trans ?_
    have hsi : d.siIdx y ⟨List.idxOf (0 : Fin 4) d.startIndexMap, List.idxOf_lt_length_iff.2 hm⟩ = ix4 (y 0) (y 1) (y 2) 0 := by
      subst hd
      funext b; refine Fin.ext ?_
      match b with
      | ⟨0, _⟩ => rfl
      | ⟨1, _⟩ => rfl
      | ⟨2, _⟩ => rfl
      | ⟨3, _⟩ => rfl
    subst hd
    exact congrArg (fun i => min (idx i).toInt.toNat 7) hsi
  | ⟨1, _⟩ =>
    rw [GatherDims.offCoord_eq_zero _ _ _ (fun h => ((GatherDims.mem_sKept _ _).mp h).1 (by subst hd; exact List.mem_cons_of_mem _ (List.mem_cons_self ..)))]
    unfold GatherDims.start
    have hm : (1 : Fin 4) ∈ d.startIndexMap := by subst hd; exact List.mem_cons_of_mem _ (List.mem_cons_self ..)
    refine (congrArg (· + 0) (dif_pos hm)).trans ?_
    have hsi : d.siIdx y ⟨List.idxOf (1 : Fin 4) d.startIndexMap, List.idxOf_lt_length_iff.2 hm⟩ = ix4 (y 0) (y 1) (y 2) 1 := by
      subst hd
      funext b; refine Fin.ext ?_
      match b with
      | ⟨0, _⟩ => rfl
      | ⟨1, _⟩ => rfl
      | ⟨2, _⟩ => rfl
      | ⟨3, _⟩ => rfl
    subst hd
    exact congrArg (fun i => min (idx i).toInt.toNat 48) hsi
  | ⟨2, _⟩ =>
    subst hd
    unfold GatherDims.start GatherDims.offCoord
    have hn : (2 : Fin 4) ∉ gather_S8x49x64x384_S8x49x4x2_S8x49x4x64x384_34_01_n_n_01_3_1164384.startIndexMap := by decide
    have hk : (2 : Fin 4) ∈ gather_S8x49x64x384_S8x49x4x2_S8x49x4x64x384_34_01_n_n_01_3_1164384.sKept := by decide
    refine (congrArg₂ (· + ·) (dif_neg hn) (dif_pos hk)).trans ((Nat.zero_add _).trans ?_)
    rfl
  | ⟨3, _⟩ =>
    subst hd
    unfold GatherDims.start GatherDims.offCoord
    have hn : (3 : Fin 4) ∉ gather_S8x49x64x384_S8x49x4x2_S8x49x4x64x384_34_01_n_n_01_3_1164384.startIndexMap := by decide
    have hk : (3 : Fin 4) ∈ gather_S8x49x64x384_S8x49x4x2_S8x49x4x64x384_34_01_n_n_01_3_1164384.sKept := by decide
    refine (congrArg₂ (· + ·) (dif_neg hn) (dif_pos hk)).trans ((Nat.zero_add _).trans ?_)
    rfl

/-- The pairs of start indices: batch, and region with a negative one counted from the end. -/
def pairs (a : S8x49x4.Idx → BitVec 32) : IVec S8x49x4x2 32 :=
  concatenate S8x49x4x2 3 [⟨S8x49x4x1, (broadcastInDim S8x49x4x1 ![0, 1, 2] bcast_S8x49x4_S8x49x4x1_0_1_2 (broadcastInDim S8x49x4 ![0, 1, 2] bcast_S8x1x1_S8x49x4_0_1_2 (select (cmpi .slt (broadcastInDim S8x1x1 ![0] bcast_S8_S8x1x1_0 (iotaInDim S8 32 0)) (broadcastInDim S8x1x1 ![] bcast_S_S8x1x1 (constantI S_ 32 0#32))) (addi (broadcastInDim S8x1x1 ![0] bcast_S8_S8x1x1_0 (iotaInDim S8 32 0)) (broadcastInDim S8x1x1 ![] bcast_S_S8x1x1 (constantI S_ 32 8#32))) (broadcastInDim S8x1x1 ![0] bcast_S8_S8x1x1_0 (iotaInDim S8 32 0)))))⟩, ⟨S8x49x4x1, (broadcastInDim S8x49x4x1 ![0, 1, 2] bcast_S8x49x4_S8x49x4x1_0_1_2 (select (cmpi .slt a (broadcastInDim S8x49x4 ![] bcast_S_S8x49x4 (constantI S_ 32 0#32))) (addi a (broadcastInDim S8x49x4 ![] bcast_S_S8x49x4 (constantI S_ 32 49#32))) a))⟩] concatenates_S8x49x4x1_S8x49x4x1_S8x49x4x2_d3

/-- A non-negative word is not counted from the end. -/
def wrap (v k : BitVec 32) : BitVec 32 := Scalar.select (IntOp.cmpi .slt v 0#32) (IntOp.addi v k) v

theorem wrap_batch : ∀ b : Fin 8, min (wrap (BitVec.ofNat 32 b.val) 8#32).toInt.toNat 7 = b.val := by
  decide +kernel

theorem wrap_region : ∀ r : Fin 49, min (wrap (BitVec.ofNat 32 r.val) 49#32).toInt.toNat 48 = r.val := by
  decide +kernel

theorem pairs_batch (a : S8x49x4.Idx → BitVec 32) (b : Fin 8) (i : Fin 49) (t : Fin 4) :
    pairs a (ix4 b i t 0) = wrap (BitVec.ofNat 32 b.val) 8#32 := by
  generalize hR : wrap (BitVec.ofNat 32 b.val) 8#32 = R
  unfold pairs
  pointwise
  exact hR

theorem pairs_region (a : S8x49x4.Idx → BitVec 32) (b : Fin 8) (i : Fin 49) (t : Fin 4) :
    pairs a (ix4 b i t 1) = wrap (a (ix3 b i t)) 49#32 := by
  generalize hR : wrap (a (ix3 b i t)) 49#32 = R
  unfold pairs
  pointwise
  exact hR

theorem region_val {v : BitVec 32} (h : v.toNat < 49) : min (wrap v 49#32).toInt.toNat 48 = v.toNat := by
  have e := wrap_region ⟨v.toNat, h⟩
  dsimp only at e
  rwa [BitVec.ofNat_toNat, BitVec.setWidth_eq] at e

/-- At `(b, i, t, w, c)` the reference's result is the table's batch `b`, region `a (b, i, t)`, at `(w, c)`. -/
theorem ref_at (a : S8x49x4.Idx → BitVec 32) (ha : ∀ x, (a x).toNat < 49) (q : S8x49x64x384.Idx → α) (y : S8x49x4x64x384.Idx) :
    Host.gather gather_S8x49x64x384_S8x49x4x2_S8x49x4x64x384_34_01_n_n_01_3_1164384 q (pairs a) y
      = q (ix4 (y 0) ⟨(a (ix3 (y 0) (y 1) (y 2))).toNat, ha _⟩ (y 3) (y 4)) := by
  have hb : min (pairs a (ix4 (y 0) (y 1) (y 2) 0)).toInt.toNat 7 = (y 0).val := by
    exact (congrArg (fun v : BitVec 32 => min v.toInt.toNat 7) (pairs_batch a (y 0) (y 1) (y 2))).trans (wrap_batch (y 0))
  have hr : min (pairs a (ix4 (y 0) (y 1) (y 2) 1)).toInt.toNat 48 = (a (ix3 (y 0) (y 1) (y 2))).toNat := by
    exact (congrArg (fun v : BitVec 32 => min v.toInt.toNat 48) (pairs_region a (y 0) (y 1) (y 2))).trans (region_val (ha _))
  refine (gather_at q (pairs a) y).trans (congrArg q ?_)
  exact congrArg₂ (fun b r => ix4 b r (y 3) (y 4)) (Fin.ext hb) (Fin.ext hr)

end Cert.Proof.RefAt
-- ==== Proof.Routes.lean ====
/-
  What the precondition says: every entry of the index argument is a region, so at least 0 and below 49.
-/
module

public import proofs.«01_k».proof.Proof.Words
public import proofs.«01_k».proof.Proof.Gen.Pre_routed
public import Idealize.ShloMosaic.Lib.ReduceAll

@[expose] public section

namespace Cert.Proof.Routes

open Cert.KernelIdeal Cert.KernelIdeal.Gen Cert.Proof.Words
open Idealize.ShloMosaic

variable {F : FTy → Type} [FloatOps F]

theorem lt_of_cmp {v : BitVec 32} (e : IntOp.andi (IntOp.cmpi .sge v 0#32) (IntOp.cmpi .slt v 49#32) = 1#1) : v.toNat < 49 := by
  obtain ⟨h0, h1⟩ := IntOp.andi_eq_one.1 e
  have h0 := Scalar.nonneg_iff v |>.1 h0
  have h1 := IntOp.cmpi_slt.1 h1
  simp only [BitVec.toInt_eq_toNat_cond, BitVec.toNat_ofNat, Nat.reducePow, Nat.reduceMod] at h1
  omega

instance : Subsingleton S_.Idx := ⟨fun a b => funext fun i => absurd i.isLt (by decide +revert)⟩

theorem routed (a : S8x49x4.Idx → BitVec 32) (q : S8x49x64x384.Idx → F .f32) (h : Cert.Pre_routed.fn (F := F) a q = fun _ => 1#1) : Routed a := by
  intro x
  have e := Host.reduce_andi_all _ _ _ _ ix0 (congrFun h ix0) x
  exact lt_of_cmp e

end Cert.Proof.Routes
-- ==== Proof.lean ====
/-
  The five claims. The kernel's launch (Proof/Launch.lean) is run once, for any float values, and read at its two
  instances: the printed program's at the bit level, the idealized one's at the extended reals. What it ends with is
  Proof/Value.lean's `end_at`, the reference's result is Proof/RefAt.lean's `ref_at`: the same element of the table at
  every index. The precondition (Proof/Routes.lean) gives that every index names a region.
-/
module

public import proofs.«01_k».proof.Defs
public import proofs.«01_k».proof.Proof.Gen.Kernel
public import proofs.«01_k».proof.Proof.Value
public import proofs.«01_k».proof.Proof.RefAt
public import proofs.«01_k».proof.Proof.Routes
public import Idealize.ShloMosaic.Lib.Quiescent

@[expose] public section

noncomputable section

namespace Cert.Proof

open Idealize.ShloMosaic Idealize.SL.Sem
open Cert.Proof.Launch Cert.Proof.Value Cert.Proof.Routes

/-! ## The kernel -/

theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (preOK m fun d => routed _ _ (hpre d)))

theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (preOK m fun d => routed _ _ (hpre d)))

/-! ## The reference -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The results are equal -/

theorem algebraic : Cert.algebraic_KernelIdeal_ReferenceIdeal := by
  intro m ρ m' ρ' hpre hargs
  have hr : ∀ d, Words.Routed (m (aLoc d)) := fun d => routed _ _ (hpre d)
  refine ⟨fun d => atEnd m d (Proc.devRef .tc Cert.KernelIdeal.main_v19), ?_, ?_⟩
  · exact (θ_run Cert.KernelIdeal.defs _ _).mono (fun _ h c => ⟨(h.1 c).2.2, (h.1 c).1, (h.1 c).2.1⟩)
      (run_main (F := Ideal) m ρ (preOK m hr))
  · refine (θ_run Cert.ReferenceIdeal.defs _ _).mono (fun _ h c => ⟨(h c).1.trans ?_, (h c).2⟩)
      (Cert.ReferenceIdeal.Value.run (F := Ideal) m' ρ')
    obtain ⟨ha, hq⟩ := hargs c
    rw [ha, hq]
    funext y
    exact (RefAt.ref_at _ (hr c) _ y).trans (end_at m c (hr c) y).symm

/-- Everything that the certificate claims. -/
theorem claim : Cert.Claim :=
  ⟨Cert.Kernel.Gen.facts, Cert.KernelIdeal.Gen.facts, Cert.ReferenceIdeal.Gen.facts, Cert.Pre_routed.Gen.facts,
    frame_kernel, frame_ideal, frame_reference, trivial, algebraic⟩

end Cert.Proof

end
